-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_finite [hPre_operands_finite : Cert.Pre_operands_finite.Facts] (m : (ℓ : Loc Cert.KernelIdeal.nD Cert.KernelIdeal.τ Cert.KernelIdeal.sig) → Buf (Elt Ideal) ℓ) : Prop :=
  ∀ c : Dev Cert.KernelIdeal.nD,
    (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_finite [hPre_operands_finite : Cert.Pre_operands_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_operands_finite [hKernelIdeal : Cert.KernelIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_operands_finite [hReferenceIdeal : Cert.ReferenceIdeal.Facts] [hPre_operands_finite : Cert.Pre_operands_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_operands_finite [hKernelIdeal : Cert.KernelIdeal.Facts] [hReferenceIdeal : Cert.ReferenceIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v30_2)) (v1 : (c : Dev Cert.KernelIdeal.nD) → Buf (Elt Ideal) ((c.tc : Thread Cert.KernelIdeal.nD Cert.KernelIdeal.τ).loc Cert.KernelIdeal.main_v30_0)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v36)) (v5 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_2) = v0 c
          ∧ r.2.mem ((c.tc : Thread Cert.KernelIdeal.nD Cert.KernelIdeal.τ).loc Cert.KernelIdeal.main_v30_0) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v36) = v4 c
          ∧ r.2.mem ((c.tc : Thread Cert.KernelIdeal.nD Cert.KernelIdeal.τ).loc Cert.KernelIdeal.main_v38) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_operands_finite : Cert.Pre_operands_finite.Facts),
    quiescent_Kernel (hKernel := hKernel)
    ∧ quiescent_KernelIdeal (hKernelIdeal := hKernelIdeal)
    ∧ quiescent_KernelIdeal_pre_operands_finite (hKernelIdeal := hKernelIdeal) (hPre_operands_finite := hPre_operands_finite)
    ∧ quiescent_ReferenceIdeal (hReferenceIdeal := hReferenceIdeal)
    ∧ quiescent_ReferenceIdeal_pre_operands_finite (hReferenceIdeal := hReferenceIdeal) (hPre_operands_finite := hPre_operands_finite)
    ∧ preserves_Kernel_KernelIdeal
    ∧ algebraic_KernelIdeal_ReferenceIdeal_pre_operands_finite (hKernelIdeal := hKernelIdeal) (hReferenceIdeal := hReferenceIdeal) (hPre_operands_finite := hPre_operands_finite)
-- ==== Pre_operands_finite.lean ====
abbrev S1024x4096 : Shape := ⟨2, ![1024, 4096]⟩
abbrev S_ : Shape := ⟨0, ![]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S1x1024 : Shape := ⟨2, ![1, 1024]⟩
abbrev S1 : Shape := ⟨1, ![1]⟩

class Facts : Prop where
  bcast_S_S1024x4096 : S_.BroadcastsInDim S1024x4096 (![] : Fin 0 → Fin S1024x4096.rank)
  bcast_S_S1024 : S_.BroadcastsInDim S1024 (![] : Fin 0 → Fin S1024.rank)
  bcast_S_S1024x1024 : S_.BroadcastsInDim S1024x1024 (![] : Fin 0 → Fin S1024x1024.rank)
  bcast_S_S512x1024 : S_.BroadcastsInDim S512x1024 (![] : Fin 0 → Fin S512x1024.rank)
  bcast_S_S512 : S_.BroadcastsInDim S512 (![] : Fin 0 → Fin S512.rank)
  bcast_S_S2x512 : S_.BroadcastsInDim S2x512 (![] : Fin 0 → Fin S2x512.rank)
  bcast_S_S2 : S_.BroadcastsInDim S2 (![] : Fin 0 → Fin S2.rank)

variable [Facts]

def fn_part1 {F : FTy → Type} [FloatOps F] (main_arg11 : FVec F S512 .f32) (main_arg12 : FVec F S2x512 .f32) (main_arg13 : FVec F S2 .f32) (main_v2 : IVec S1024x4096 1) (main_v5 : IVec S1024x4096 1) (main_v8 : IVec S1024 1) (main_v11 : IVec S1024x1024 1) (main_v14 : IVec S1024 1) (main_v17 : IVec S512x1024 1) : IVec S1024x4096 1 × IVec S1024x4096 1 × IVec S1024 1 × IVec S1024x1024 1 × IVec S1024 1 × IVec S512x1024 1 × IVec S512 1 × IVec S2x512 1 × IVec S2 1 :=
  let main_v18 : FVec F S512 .f32 := Host.absf main_arg11
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S2x512 .f32 := Host.absf main_arg12
  let main_cst_6 : FVec F S_ .f32 := constant S_ .f32 0x7F800000#32
  let main_v22 : FVec F S2x512 .f32 := broadcastInDim S2x512 ![] bcast_S_S2x512 main_cst_6
  let main_v23 : IVec S2x512 1 := cmpf .olt main_v21 main_v22
  let main_v24 : FVec F S2 .f32 := Host.absf main_arg13
  let main_cst_7 : FVec F S_ .f32 := constant S_ .f32 0x7F800000#32
  let main_v25 : FVec F S2 .f32 := broadcastInDim S2 ![] bcast_S_S2 main_cst_7
  let main_v26 : IVec S2 1 := cmpf .olt main_v24 main_v25
  (main_v2, main_v5, main_v8, main_v11, main_v14, main_v17, main_v20, main_v23, main_v26)

def fn {F : FTy → Type} [FloatOps F] (main_arg0 : FVec F S1024x4096 .f32) (main_arg1 : IVec S_ 32) (main_arg2 : FVec F S1024x4096 .f32) (main_arg3 : FVec F S1024 .f32) (main_arg4 : FVec F S1024x1024 .f32) (main_arg5 : FVec F S1024 .f32) (main_arg6 : FVec F S1024x1024 .f32) (main_arg7 : FVec F S1024 .f32) (main_arg8 : FVec F S4096x1024 .f32) (main_arg9 : FVec F S4096 .f32) (main_arg10 : FVec F S512x1024 .f32) (main_arg11 : FVec F S512 .f32) (main_arg12 : FVec F S2x512 .f32) (main_arg13 : FVec F S2 .f32) (main_arg14 : FVec F S1024x1024 .f32) (main_arg15 : FVec F S1024 .f32) (main_arg16 : FVec F S1x1024 .f32) (main_arg17 : FVec F S1 .f32) (main_arg18 : FVec F S1x1024 .f32) (main_arg19 : FVec F S1 .f32) : IVec S1024x4096 1 × IVec S1024x4096 1 × IVec S1024 1 × IVec S1024x1024 1 × IVec S1024 1 × IVec S512x1024 1 × IVec S512 1 × IVec S2x512 1 × IVec S2 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_v3 : FVec F S1024x4096 .f32 := Host.absf main_arg2
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S512x1024 .f32 := Host.absf main_arg10
  let main_cst_4 : FVec F S_ .f32 := constant S_ .f32 0x7F800000#32
  let main_v16 : FVec F S512x1024 .f32 := broadcastInDim S512x1024 ![] bcast_S_S512x1024 main_cst_4
  let main_v17 : IVec S512x1024 1 := cmpf .olt main_v15 main_v16
  fn_part1 (F := F) main_arg11 main_arg12 main_arg13 main_v2 main_v5 main_v8 main_v11 main_v14 main_v17
-- ==== Kernel.lean ====
abbrev S1024x4096 : Shape := ⟨2, ![1024, 4096]⟩
abbrev S_ : Shape := ⟨0, ![]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S1x1024 : Shape := ⟨2, ![1, 1024]⟩
abbrev S1 : Shape := ⟨1, ![1]⟩
abbrev S1x512 : Shape := ⟨2, ![1, 512]⟩
abbrev S3 : Shape := ⟨1, ![3]⟩
abbrev S1x3 : Shape := ⟨2, ![1, 3]⟩
abbrev S1x4096 : Shape := ⟨2, ![1, 4096]⟩
abbrev S1024x4 : Shape := ⟨2, ![1024, 4]⟩
abbrev S2x256x4096 : Shape := ⟨3, ![2, 256, 4096]⟩
abbrev S3x1024x1024 : Shape := ⟨3, ![3, 1024, 1024]⟩
abbrev S2x1024x1024 : Shape := ⟨3, ![2, 1024, 1024]⟩
abbrev S1x256x4096 : Shape := ⟨3, ![1, 256, 4096]⟩
abbrev S256x4096 : Shape := ⟨2, ![256, 4096]⟩
abbrev S1x1024x1024 : Shape := ⟨3, ![1, 1024, 1024]⟩
abbrev S1x512x1024 : Shape := ⟨3, ![1, 512, 1024]⟩
abbrev S1024x512 : Shape := ⟨2, ![1024, 512]⟩
abbrev S1024x1 : Shape := ⟨2, ![1024, 1]⟩
abbrev S1x1 : Shape := ⟨2, ![1, 1]⟩

abbrev nBuf : Space → Nat
  | .hbm => 63
  | .vmem => 20
  | .smem => 0
  | _ => 0

abbrev bufTy : (tb : Table) → Fin (tcTables nBuf tb) → BufTy
  | .hbm, ⟨0, _⟩ => ⟨S1024x4096, .f32⟩
  | .hbm, ⟨1, _⟩ => ⟨S_, .i32⟩
  | .hbm, ⟨2, _⟩ => ⟨S1024x4096, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096, .f32⟩
  | .hbm, ⟨10, _⟩ => ⟨S512x1024, .f32⟩
  | .hbm, ⟨11, _⟩ => ⟨S512, .f32⟩
  | .hbm, ⟨12, _⟩ => ⟨S2x512, .f32⟩
  | .hbm, ⟨13, _⟩ => ⟨S2, .f32⟩
  | .hbm, ⟨14, _⟩ => ⟨S1024x1024, .f32⟩
  | .hbm, ⟨15, _⟩ => ⟨S1024, .f32⟩
  | .hbm, ⟨16, _⟩ => ⟨S1x1024, .f32⟩
  | .hbm, ⟨17, _⟩ => ⟨S1, .f32⟩
  | .hbm, ⟨18, _⟩ => ⟨S1x1024, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S3, .f32⟩
  | .hbm, ⟨46, _⟩ => ⟨S1x3, .f32⟩
  | .hbm, ⟨47, _⟩ => ⟨S1x1024, .f32⟩
  | .hbm, ⟨48, _⟩ => ⟨S1x1024, .f32⟩
  | .hbm, ⟨49, _⟩ => ⟨S1x512, .f32⟩
  | .hbm, ⟨50, _⟩ => ⟨S1x1024, .f32⟩
  | .hbm, ⟨51, _⟩ => ⟨S1x4096, .f32⟩
  | .hbm, ⟨52, _⟩ => ⟨S1024x1024, .f32⟩
  | .hbm, ⟨53, _⟩ => ⟨S1024x4, .f32⟩
  | .hbm, ⟨54, _⟩ => ⟨S1024x4096, .f32⟩
  | .hbm, ⟨55, _⟩ => ⟨S1024x1, .f32⟩
  | .hbm, ⟨56, _⟩ => ⟨S1024, .f32⟩
  | .hbm, ⟨57, _⟩ => ⟨S1024x1, .f32⟩
  | .hbm, ⟨58, _⟩ => ⟨S1024, .f32⟩
  | .hbm, ⟨59, _⟩ => ⟨S1024x1, .f32⟩
  | .hbm, ⟨60, _⟩ => ⟨S1024, .f32⟩
  | .hbm, ⟨61, _⟩ => ⟨S1024x1, .f32⟩
  | .hbm, ⟨62, _⟩ => ⟨S1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x512, .f32⟩
  | .local _ .vmem, ⟨4, _⟩ => ⟨S1x512, .f32⟩
  | .local _ .vmem, ⟨5, _⟩ => ⟨S1x1024, .f32⟩
  | .local _ .vmem, ⟨6, _⟩ => ⟨S1x1024, .f32⟩
  | .local _ .vmem, ⟨7, _⟩ => ⟨S1x3, .f32⟩
  | .local _ .vmem, ⟨8, _⟩ => ⟨S1x1024, .f32⟩
  | .local _ .vmem, ⟨9, _⟩ => ⟨S1x4096, .f32⟩
  | .local _ .vmem, ⟨10, _⟩ => ⟨S2x256x4096, .f32⟩
  | .local _ .vmem, ⟨11, _⟩ => ⟨S3x1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | .local _ .vmem, ⟨18, _⟩ => ⟨S2x1024x1024, .f32⟩
  | .local _ .vmem, ⟨19, _⟩ => ⟨S1024x4, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S1024x4096 : Shape := ⟨2, ![1024, 4096]⟩
abbrev S_ : Shape := ⟨0, ![]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S1x1024 : Shape := ⟨2, ![1, 1024]⟩
abbrev S1 : Shape := ⟨1, ![1]⟩
abbrev S1024x512 : Shape := ⟨2, ![1024, 512]⟩
abbrev S1x512 : Shape := ⟨2, ![1, 512]⟩
abbrev S512x2 : Shape := ⟨2, ![512, 2]⟩
abbrev S1024x2 : Shape := ⟨2, ![1024, 2]⟩
abbrev S1x2 : Shape := ⟨2, ![1, 2]⟩
abbrev S1024x1 : Shape := ⟨2, ![1024, 1]⟩
abbrev S1x1 : Shape := ⟨2, ![1, 1]⟩
abbrev S1x4096 : Shape := ⟨2, ![1, 4096]⟩
abbrev S1024x1x1 : Shape := ⟨3, ![1024, 1, 1]⟩
abbrev S1x1x1 : Shape := ⟨3, ![1, 1, 1]⟩

abbrev nBuf : Space → Nat
  | .hbm => 161
  | .vmem => 0
  | .smem => 0
  | _ => 0

abbrev hbmTy0_0 (i : Nat) : BufTy := match i % 128 with
  | 0 => ⟨S1024x4096, .f32⟩
  | 1 => ⟨S_, .i32⟩
  | 2 => ⟨S1024x4096, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S4096x1024, .f32⟩
  | 9 => ⟨S4096, .f32⟩
  | 10 => ⟨S512x1024, .f32⟩
  | 11 => ⟨S512, .f32⟩
  | 12 => ⟨S2x512, .f32⟩
  | 13 => ⟨S2, .f32⟩
  | 14 => ⟨S1024x1024, .f32⟩
  | 15 => ⟨S1024, .f32⟩
  | 16 => ⟨S1x1024, .f32⟩
  | 17 => ⟨S1, .f32⟩
  | 18 => ⟨S1x1024, .f32⟩
  | 19 => ⟨S1, .f32⟩
  | 20 => ⟨S4096x1024, .f32⟩
  | 21 => ⟨S1024x1024, .f32⟩
  | 22 => ⟨S1x1024, .f32⟩
  | 23 => ⟨S1024x1024, .f32⟩
  | 24 => ⟨S1024x1024, .f32⟩
  | 25 => ⟨S_, .f32⟩
  | 26 => ⟨S1024x1024, .f32⟩
  | 27 => ⟨S1024x1024, .f32⟩
  | 28 => ⟨S1024x1024, .f32⟩
  | 29 => ⟨S1024x1024, .f32⟩
  | 30 => ⟨S1x1024, .f32⟩
  | 31 => ⟨S1024x1024, .f32⟩
  | 32 => ⟨S1024x1024, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1024x1024, .f32⟩
  | 40 => ⟨S1024x1024, .f32⟩
  | 41 => ⟨S1024x512, .f32⟩
  | 42 => ⟨S1024x512, .f32⟩
  | 43 => ⟨S1x512, .f32⟩
  | 44 => ⟨S1024x512, .f32⟩
  | 45 => ⟨S1024x512, .f32⟩
  | 46 => ⟨S_, .f32⟩
  | 47 => ⟨S1024x512, .f32⟩
  | 48 => ⟨S1024x512, .f32⟩
  | 49 => ⟨S512x2, .f32⟩
  | 50 => ⟨S1024x2, .f32⟩
  | 51 => ⟨S1x2, .f32⟩
  | 52 => ⟨S1024x2, .f32⟩
  | 53 => ⟨S1024x2, .f32⟩
  | 54 => ⟨S_, .f32⟩
  | 55 => ⟨S1024, .f32⟩
  | 56 => ⟨S_, .f32⟩
  | 57 => ⟨S1024, .f32⟩
  | 58 => ⟨S1024, .f32⟩
  | 59 => ⟨S1024x1, .f32⟩
  | 60 => ⟨S1024x2, .f32⟩
  | 61 => ⟨S1024x2, .f32⟩
  | 62 => ⟨S1024x2, .f32⟩
  | 63 => ⟨S_, .f32⟩
  | 64 => ⟨S1024, .f32⟩
  | 65 => ⟨S1024x1, .f32⟩
  | 66 => ⟨S1024x2, .f32⟩
  | 67 => ⟨S1024x2, .f32⟩
  | 68 => ⟨S1024x2, .i32⟩
  | 69 => ⟨S_, .f32⟩
  | 70 => ⟨S_, .i32⟩
  | 71 => ⟨S1024, .f32⟩
  | 72 => ⟨S1024, .i32⟩
  | 73 => ⟨S1024x1024, .f32⟩
  | 74 => ⟨S1024x1024, .f32⟩
  | 75 => ⟨S1x1024, .f32⟩
  | 76 => ⟨S1024x1024, .f32⟩
  | 77 => ⟨S1024x1024, .f32⟩
  | 78 => ⟨S1024x1024, .f32⟩
  | 79 => ⟨S_, .f32⟩
  | 80 => ⟨S1024, .f32⟩
  | 81 => ⟨S1024x1, .f32⟩
  | 82 => ⟨S1024x1, .f32⟩
  | 83 => ⟨S_, .f32⟩
  | 84 => ⟨S1024x1, .f32⟩
  | 85 => ⟨S1024x1, .f32⟩
  | 86 => ⟨S1024x1024, .f32⟩
  | 87 => ⟨S1024x1024, .f32⟩
  | 88 => ⟨S1024x1, .f32⟩
  | 89 => ⟨S1024x1, .f32⟩
  | 90 => ⟨S1x1, .f32⟩
  | 91 => ⟨S1024x1, .f32⟩
  | 92 => ⟨S1024x1, .f32⟩
  | 93 => ⟨S1024x1, .f32⟩
  | 94 => ⟨S1024x1, .f32⟩
  | 95 => ⟨S_, .f32⟩
  | 96 => ⟨S1024x1, .f32⟩
  | 97 => ⟨S1024x1, .f32⟩
  | 98 => ⟨S_, .f32⟩
  | 99 => ⟨S1024x1, .f32⟩
  | 100 => ⟨S1024x1, .f32⟩
  | 101 => ⟨S_, .f32⟩
  | 102 => ⟨S1024x1, .f32⟩
  | 103 => ⟨S1024x1, .f32⟩
  | 104 => ⟨S1024x1, .f32⟩
  | 105 => ⟨S1024x1, .f32⟩
  | 106 => ⟨S1x1, .f32⟩
  | 107 => ⟨S1024x1, .f32⟩
  | 108 => ⟨S1024x1, .f32⟩
  | 109 => ⟨S1024x1024, .f32⟩
  | 110 => ⟨S1024x1024, .f32⟩
  | 111 => ⟨S1024x1024, .f32⟩
  | 112 => ⟨S1024x1024, .f32⟩
  | 113 => ⟨S1024x1024, .f32⟩
  | 114 => ⟨S1x1024, .f32⟩
  | 115 => ⟨S1024x1024, .f32⟩
  | 116 => ⟨S1024x1024, .f32⟩
  | 117 => ⟨S_, .f32⟩
  | 118 => ⟨S1024x1024, .f32⟩
  | 119 => ⟨S1024x1024, .f32⟩
  | 120 => ⟨S1024x4096, .f32⟩
  | 121 => ⟨S1024x4096, .f32⟩
  | 122 => ⟨S1x4096, .f32⟩
  | 123 => ⟨S1024x4096, .f32⟩
  | 124 => ⟨S1024x4096, .f32⟩
  | 125 => ⟨S1024x1, .i32⟩
  | 126 => ⟨S_, .i32⟩
  | 127 => ⟨S1024x1, .i32⟩
  | _ => ⟨S1024x4096, .f32⟩

abbrev hbmTy0_1 (i : Nat) : BufTy := match i % 128 with
  | 0 => ⟨S1024x1, .i1⟩
  | 1 => ⟨S_, .i32⟩
  | 2 => ⟨S1024x1, .i32⟩
  | 3 => ⟨S1024x1, .i32⟩
  | 4 => ⟨S1024x1, .i32⟩
  | 5 => ⟨S1024x1x1, .i32⟩
  | 6 => ⟨S1, .i32⟩
  | 7 => ⟨S_, .i32⟩
  | 8 => ⟨S1024x1x1, .i32⟩
  | 9 => ⟨S1024x1x1, .i1⟩
  | 10 => ⟨S1x1x1, .i32⟩
  | 11 => ⟨S1024x1x1, .i32⟩
  | 12 => ⟨S1024x1x1, .i1⟩
  | 13 => ⟨S1024x1x1, .i1⟩
  | 14 => ⟨S_, .i1⟩
  | 15 => ⟨S1024x1, .i1⟩
  | 16 => ⟨S1024x1, .f32⟩
  | 17 => ⟨S_, .f32⟩
  | 18 => ⟨S1024x1, .f32⟩
  | 19 => ⟨S1024x1, .f32⟩
  | 20 => ⟨S1024, .f32⟩
  | 21 => ⟨S1024, .f32⟩
  | 22 => ⟨S_, .f32⟩
  | 23 => ⟨S1024x2, .f32⟩
  | 24 => ⟨S1024x2, .f32⟩
  | 25 => ⟨S1024x2, .f32⟩
  | 26 => ⟨S1024x2, .f32⟩
  | 27 => ⟨S_, .f32⟩
  | 28 => ⟨S1024, .f32⟩
  | 29 => ⟨S1024, .f32⟩
  | 30 => ⟨S1024x1, .f32⟩
  | 31 => ⟨S1024, .f32⟩
  | 32 => ⟨S1024, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_cst : Ref sig .tc := ⟨.hbm, 46, rfl⟩
abbrev main_call1_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call2_v0 : Ref sig .tc := ⟨.hbm, 68, rfl⟩
abbrev main_call2_cst : Ref sig .tc := ⟨.hbm, 69, rfl⟩
abbrev main_call2_c : Ref sig .tc := ⟨.hbm, 70, rfl⟩
abbrev main_call2_v1_0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call3_v0 : Ref sig .tc := ⟨.hbm, 78, rfl⟩
abbrev main_call3_cst : Ref sig .tc := ⟨.hbm, 79, rfl⟩
abbrev main_call3_v1 : Ref sig .tc := ⟨.hbm, 80, rfl⟩
abbrev main_call3_v2 : Ref sig .tc := ⟨.hbm, 81, rfl⟩
abbrev main_v45 : Ref sig .tc := ⟨.hbm, 82, rfl⟩
abbrev main_cst_4 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_5 : Ref sig .tc := ⟨.hbm, 95, rfl⟩
abbrev main_v57 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call4_cst : Ref sig .tc := ⟨.hbm, 117, rfl⟩
abbrev main_call4_v0 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_cst : Ref sig .tc := ⟨.hbm, 145, rfl⟩
abbrev main_call5_v14 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_cst_8 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_9 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩

abbrev nD : Nat := 1
abbrev τ : Topo := Topo.v7x

variable {F : FTy → Type} [FloatOps F]
-- ==== Proof.Run0.lean ====
/- Hand-written. One run of the kernel body, from whole buffers, as a triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline's own beside the transfers' counters. -/
local notation "𝕄" => MT nD τ sig Unit (Elt F) ℕ (Pipeline.UD sig nD τ) ℕ

/-- A buffer's contents at the core, and the buffer held whole at them. -/
abbrev Cts (c : Dev nD) (b : Ref sig .tc) : Type := Buf (Elt F) ((c : Thread nD τ).loc b)
abbrev pt (c : Dev nD) (b : Ref sig .tc) (f : Cts (F := F) c b) : sProp 𝕄 := (Memref.whole b).view.loc (c : Thread nD τ) ↦{fullShare} f

set_option sl_exec.dmaWindow true in
set_option sl_exec.dmaWindowLent true in
set_option maxHeartbeats 8000000 in
/-- The kernel's body, run from the ten windows, the ten scratches, the nine own semaphores at zero, the seven operands it copies
    from itself and the three results: everything comes back, the semaphores at zero and the operands as they were. -/
theorem run0 (c : Dev nD) (a0 : Memref sig .tc .vmem S1x1024 .f32) (ha0 : a0.IsWhole) (a1 : Memref sig .tc .vmem S1x1024 .f32) (ha1 : a1.IsWhole) (a2 : Memref sig .tc .vmem S1x1024 .f32) (ha2 : a2.IsWhole) (a3 : Memref sig .tc .vmem S1x512 .f32) (ha3 : a3.IsWhole) (a4 : Memref sig .tc .vmem S1x512 .f32) (ha4 : a4.IsWhole) (a5 : Memref sig .tc .vmem S1x1024 .f32) (ha5 : a5.IsWhole) (a6 : Memref sig .tc .vmem S1x1024 .f32) (ha6 : a6.IsWhole) (a7 : Memref sig .tc .vmem S1x3 .f32) (ha7 : a7.IsWhole) (a8 : Memref sig .tc .vmem S1x1024 .f32) (ha8 : a8.IsWhole) (a9 : Memref sig .tc .vmem S1x4096 .f32) (ha9 : a9.IsWhole)
  (b0 : Vec F S1x1024 .f32) (b1 : Vec F S1x1024 .f32) (b2 : Vec F S1x1024 .f32) (b3 : Vec F S1x512 .f32) (b4 : Vec F S1x512 .f32) (b5 : Vec F S1x1024 .f32) (b6 : Vec F S1x1024 .f32) (b7 : Vec F S1x3 .f32) (b8 : Vec F S1x1024 .f32) (b9 : Vec F S1x4096 .f32)
  (x : Cts (F := F) c main_arg0) (w1 : Cts (F := F) c main_arg2) (w2 : Cts (F := F) c main_arg4) (dr : Cts (F := F) c main_arg14) (ch : Cts (F := F) c main_arg10) (tp1 : Cts (F := F) c main_arg6) (tp2 : Cts (F := F) c main_arg8) (W : Waits sig Unit) (K : PUnit → sProp 𝕄) :
  iprop(owns (c : Thread nD τ) a0 fullShare b0
    ∗ owns (c : Thread nD τ) a1 fullShare b1
    ∗ owns (c : Thread nD τ) a2 fullShare b2
    ∗ owns (c : Thread nD τ) a3 fullShare b3
    ∗ owns (c : Thread nD τ) a4 fullShare b4
    ∗ owns (c : Thread nD τ) a5 fullShare b5
    ∗ owns (c : Thread nD τ) a6 fullShare b6
    ∗ owns (c : Thread nD τ) a7 fullShare b7
    ∗ owns (c : Thread nD τ) a8 fullShare b8
    ∗ owns (c : Thread nD τ) a9 fullShare b9
    ∗ (∃ f, pt (F := F) c cc0_scratch0 f)
    ∗ (∃ f, pt (F := F) c cc0_scratch1 f)
    ∗ (∃ f, pt (F := F) c cc0_scratch2 f)
    ∗ (∃ f, pt (F := F) c cc0_scratch3 f)
    ∗ (∃ f, pt (F := F) c cc0_scratch4 f)
    ∗ (∃ f, pt (F := F) c cc0_scratch5 f)
    ∗ (∃ f, pt (F := F) c cc0_scratch6 f)
    ∗ (∃ f, pt (F := F) c cc0_scratch7 f)
    ∗ (∃ f, pt (F := F) c cc0_scratch8 f)
    ∗ (∃ f, pt (F := F) c cc0_scratch9 f)
    ∗ semVal ((c : Thread nD τ), SemLoc.dma 10) 0
    ∗ semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ pt c main_arg0 x
    ∗ pt c main_arg2 w1
    ∗ pt c main_arg4 w2
    ∗ pt c main_arg14 dr
    ∗ pt c main_arg10 ch
    ∗ pt c main_arg6 tp1
    ∗ pt c main_arg8 tp2
    ∗ (∃ f, pt (F := F) c main_v30_0 f)
    ∗ (∃ f, pt (F := F) c main_v30_1 f)
    ∗ (∃ f, pt (F := F) c main_v30_2 f)
    ∗ owes (c : Thread nD τ) 0 W
    ∗ (iprop(owns (c : Thread nD τ) a0 fullShare b0
      ∗ owns (c : Thread nD τ) a1 fullShare b1
      ∗ owns (c : Thread nD τ) a2 fullShare b2
      ∗ owns (c : Thread nD τ) a3 fullShare b3
      ∗ owns (c : Thread nD τ) a4 fullShare b4
      ∗ owns (c : Thread nD τ) a5 fullShare b5
      ∗ owns (c : Thread nD τ) a6 fullShare b6
      ∗ owns (c : Thread nD τ) a7 fullShare b7
      ∗ owns (c : Thread nD τ) a8 fullShare b8
      ∗ owns (c : Thread nD τ) a9 fullShare b9
      ∗ (∃ f, pt (F := F) c cc0_scratch0 f)
      ∗ (∃ f, pt (F := F) c cc0_scratch1 f)
      ∗ (∃ f, pt (F := F) c cc0_scratch2 f)
      ∗ (∃ f, pt (F := F) c cc0_scratch3 f)
      ∗ (∃ f, pt (F := F) c cc0_scratch4 f)
      ∗ (∃ f, pt (F := F) c cc0_scratch5 f)
      ∗ (∃ f, pt (F := F) c cc0_scratch6 f)
      ∗ (∃ f, pt (F := F) c cc0_scratch7 f)
      ∗ (∃ f, pt (F := F) c cc0_scratch8 f)
      ∗ (∃ f, pt (F := F) c cc0_scratch9 f)
      ∗ semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ pt c main_arg0 x
      ∗ pt c main_arg2 w1
      ∗ pt c main_arg4 w2
      ∗ pt c main_arg14 dr
      ∗ pt c main_arg10 ch
      ∗ pt c main_arg6 tp1
      ∗ pt c main_arg8 tp2
      ∗ (∃ f, pt (F := F) c main_v30_0 f)
      ∗ (∃ f, pt (F := F) c main_v30_1 f)
      ∗ (∃ f, pt (F := F) c main_v30_2 f)
      ∗ (∃ W', owes (c : Thread nD τ) 0 W')) -∗ K ⟨⟩))
  ⊢ wp frame (wpE (defs₀ (F := F)) Variants.none c none) Set.univ (cc0__fused (Memref.whole main_arg0) (Memref.isWhole_whole _) (Memref.whole main_arg2) (Memref.isWhole_whole _) (Memref.whole main_arg4) (Memref.isWhole_whole _) (Memref.whole main_arg14) (Memref.isWhole_whole _) (Memref.whole main_arg10) (Memref.isWhole_whole _) (Memref.whole main_arg6) (Memref.isWhole_whole _) (Memref.whole main_arg8) (Memref.isWhole_whole _) a0 ha0 a1 ha1 a2 ha2 a3 ha3 a4 ha4 a5 ha5 a6 ha6 a7 ha7 a8 ha8 a9 ha9 (Memref.whole main_v30_0) (Memref.isWhole_whole _) (Memref.whole main_v30_1) (Memref.isWhole_whole _) (Memref.whole main_v30_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) K := by
  simp only [cc0__fused_eq_skeleton]; unfold cc0__fused_skel
  unfold owns
  iintro ⟨⟨%fw0, %hw0, HB0⟩, ⟨%fw1, %hw1, HB1⟩, ⟨%fw2, %hw2, HB2⟩, ⟨%fw3, %hw3, HB3⟩, ⟨%fw4, %hw4, HB4⟩, ⟨%fw5, %hw5, HB5⟩, ⟨%fw6, %hw6, HB6⟩, ⟨%fw7, %hw7, HB7⟩, ⟨%fw8, %hw8, HB8⟩, ⟨%fw9, %hw9, HB9⟩, ⟨%fs0, HS0⟩, ⟨%fs1, HS1⟩, ⟨%fs2, HS2⟩, ⟨%fs3, HS3⟩, ⟨%fs4, HS4⟩, ⟨%fs5, HS5⟩, ⟨%fs6, HS6⟩, ⟨%fs7, HS7⟩, ⟨%fs8, HS8⟩, ⟨%fs9, HS9⟩, Hq10, Hq11, Hq12, Hq13, Hq14, Hq15, Hq16, Hq17, Hq18, Hx_x, Hx_w1, Hx_w2, Hx_dr, Hx_ch, Hx_tp1, Hx_tp2, ⟨%fo0, HO0⟩, ⟨%fo1, HO1⟩, ⟨%fo2, HO2⟩, HW, Hk⟩
  unfold pt
  sl_exec
  sl_step
  iapply Hk
  isplitl [HB0]
  · iexists fw0; isplitr
    · ipureintro; exact hw0
    · iexact HB0
  isplitl [HB1]
  · iexists fw1; isplitr
    · ipureintro; exact hw1
    · iexact HB1
  isplitl [HB2]
  · iexists fw2; isplitr
    · ipureintro; exact hw2
    · iexact HB2
  isplitl [HB3]
  · iexists fw3; isplitr
    · ipureintro; exact hw3
    · iexact HB3
  isplitl [HB4]
  · iexists fw4; isplitr
    · ipureintro; exact hw4
    · iexact HB4
  isplitl [HB5]
  · iexists fw5; isplitr
    · ipureintro; exact hw5
    · iexact HB5
  isplitl [HB6]
  · iexists fw6; isplitr
    · ipureintro; exact hw6
    · iexact HB6
  isplitl [HB7]
  · iexists fw7; isplitr
    · ipureintro; exact hw7
    · iexact HB7
  isplitl [HB8]
  · iexists fw8; isplitr
    · ipureintro; exact hw8
    · iexact HB8
  isplitl [HB9]
  · iexists fw9; isplitr
    · ipureintro; exact hw9
    · iexact HB9
  isplitl [HS0]
  · iexists _; iexact HS0
  isplitl [HS1]
  · iexists _; iexact HS1
  isplitl [HS2]
  · iexists _; iexact HS2
  isplitl [HS3]
  · iexists _; iexact HS3
  isplitl [HS4]
  · iexists _; iexact HS4
  isplitl [HS5]
  · iexists _; iexact HS5
  isplitl [HS6]
  · iexists _; iexact HS6
  isplitl [HS7]
  · iexists _; iexact HS7
  isplitl [HS8]
  · iexists _; iexact HS8
  isplitl [HS9]
  · iexists _; iexact HS9
  isplitl [Hq10]
  · iexact Hq10
  isplitl [Hq11]
  · iexact Hq11
  isplitl [Hq12]
  · iexact Hq12
  isplitl [Hq13]
  · iexact Hq13
  isplitl [Hq14]
  · iexact Hq14
  isplitl [Hq15]
  · iexact Hq15
  isplitl [Hq16]
  · iexact Hq16
  isplitl [Hq17]
  · iexact Hq17
  isplitl [Hq18]
  · iexact Hq18
  isplitl [Hx_x]
  · iexact Hx_x
  isplitl [Hx_w1]
  · iexact Hx_w1
  isplitl [Hx_w2]
  · iexact Hx_w2
  isplitl [Hx_dr]
  · iexact Hx_dr
  isplitl [Hx_ch]
  · iexact Hx_ch
  isplitl [Hx_tp1]
  · iexact Hx_tp1
  isplitl [Hx_tp2]
  · iexact Hx_tp2
  isplitl [HO0]
  · iexists _; iexact HO0
  isplitl [HO1]
  · iexists _; iexact HO1
  isplitl [HO2]
  · iexists _; iexact HO2
  iexists _; iexact HW

end Cert.KernelIdeal.Hand

end
-- ==== Proof.Launch0.lean ====
/- Hand-written. The launch around the body: every buffer and semaphore the body uses is taken from the launch and given back; the frame. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Run0
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline's own beside the transfers' counters. -/
local notation "𝕄" => MT nD τ sig Unit (Elt F) ℕ (Pipeline.UD sig nD τ) ℕ

variable (m : (ℓ : Loc nD τ sig) → Buf (Elt F) ℓ) (ρ : Dev nD → PrngReg)

/-- @main around its one region, at this proof's algebra. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The nine semaphores that the body signals and waits on. -/
abbrev osem0 : Fin 9 → SemLoc sig := fun j => (![SemLoc.dma 10, SemLoc.dma 11, SemLoc.dma 12, SemLoc.dma 13, SemLoc.dma 14, SemLoc.dma 15, SemLoc.dma 16, SemLoc.dma 17, SemLoc.dma 18] : Fin 9 → SemLoc sig) j
theorem ownSemFacts0 : Pipeline.OwnSemFacts spec0 osem0 := by decide
/-- They are held at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8] (by decide) (by decide)]; rfl
/-- The operands the body copies from itself, and the results it writes itself. -/
def H0 : Finset (Ref sig .tc) := {main_arg0, main_arg2, main_arg4, main_arg14, main_arg10, main_arg6, main_arg8}
def R0 : Finset (Ref sig .tc) := {main_v30_0, main_v30_1, main_v30_2}
/-- What the host lines after the region write. -/
def T0 : Finset (Ref sig .tc) := {main_v31, main_v32, main_v33, main_v34, main_v35, main_v36, main_v37, main_v38}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄)
      = iprop(pt c main_arg0 (V m c main_arg0) ∗ pt c main_arg2 (V m c main_arg2) ∗ pt c main_arg4 (V m c main_arg4) ∗ pt c main_arg14 (V m c main_arg14) ∗ pt c main_arg10 (V m c main_arg10) ∗ pt c main_arg6 (V m c main_arg6) ∗ pt c main_arg8 (V m c main_arg8)) := by
  rw [BI.bigSep_eq_bigSepL_of_eq [main_arg0, main_arg2, main_arg4, main_arg14, main_arg10, main_arg6, main_arg8] (by decide) (by decide)]; rfl
theorem ownedPts0_eq (c : Dev nD) :
    (Pipeline.owned R0 c : sProp 𝕄)
      = iprop((∃ f, pt (F := F) c main_v30_0 f) ∗ (∃ f, pt (F := F) c main_v30_1 f) ∗ (∃ f, pt (F := F) c main_v30_2 f)) := by
  unfold Pipeline.owned; rw [BI.bigSep_eq_bigSepL_of_eq [main_v30_0, main_v30_1, main_v30_2] (by decide) (by decide)]; rfl
/-- The region's invariant, buffer by buffer: the ten scratches at something, the semaphores at zero, the operands as the region
    finds them, the results at something. -/
theorem PhiDR0_eq (c : Dev nD) :
    (Pipeline.ΦDR osem0 spec0 H0 R0 (V m) c : sProp 𝕄)
      = iprop(iprop((∃ f, pt (F := F) c cc0_scratch0 f) ∗ (∃ f, pt (F := F) c cc0_scratch1 f) ∗ (∃ f, pt (F := F) c cc0_scratch2 f) ∗ (∃ f, pt (F := F) c cc0_scratch3 f) ∗ (∃ f, pt (F := F) c cc0_scratch4 f) ∗ (∃ f, pt (F := F) c cc0_scratch5 f) ∗ (∃ f, pt (F := F) c cc0_scratch6 f) ∗ (∃ f, pt (F := F) c cc0_scratch7 f) ∗ (∃ f, pt (F := F) c cc0_scratch8 f) ∗ (∃ f, pt (F := F) c cc0_scratch9 f)) ∗ (∃ r, prngReg c r)
          ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop(pt c main_arg0 (V m c main_arg0) ∗ pt c main_arg2 (V m c main_arg2) ∗ pt c main_arg4 (V m c main_arg4) ∗ pt c main_arg14 (V m c main_arg14) ∗ pt c main_arg10 (V m c main_arg10) ∗ pt c main_arg6 (V m c main_arg6) ∗ pt c main_arg8 (V m c main_arg8))
          ∗ iprop((∃ f, pt (F := F) c main_v30_0 f) ∗ (∃ f, pt (F := F) c main_v30_1 f) ∗ (∃ f, pt (F := F) c main_v30_2 f))) := by
  rw [Pipeline.ΦDR_eq, scopedRest0_eq, ownSems00_eq, hbmPts0_eq, ownedPts0_eq]; try rfl

/-- The proof data: each window's buffer ends as it was fetched. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by
  dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by
  dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by
  dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by
  dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by
  dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by
  dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by
  dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by
  dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m 0 c).after 8 t = iblk m c 8 t := by
  dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin cfg0.N) : (dats m 0 c).after 9 t = iblk m c 9 t := by
  dsimp only [dats]
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

set_option maxHeartbeats 2000000 in
/-- The body at the one grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [after_0, after_1, after_2, after_3, after_4, after_5, after_6, after_7, after_8, after_9, before_0, before_1, before_2, before_3, before_4, before_5, before_6, before_7, before_8, before_9]
  rw [show (dats m 0 c).Φ t.succ = (dats m 0 c).Φ t.castSucc from rfl]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9⟩, Hg, ⟨Hq10, Hq11, Hq12, Hq13, Hq14, Hq15, Hq16, Hq17, Hq18⟩, ⟨Hx_x, Hx_w1, Hx_w2, Hx_dr, Hx_ch, Hx_tp1, Hx_tp2⟩, ⟨HO0, HO1, HO2⟩⟩, ⟨%W, -, HW⟩, ⟨%d0, HB0⟩, ⟨%d1, HB1⟩, ⟨%d2, HB2⟩, ⟨%d3, HB3⟩, ⟨%d4, HB4⟩, ⟨%d5, HB5⟩, ⟨%d6, HB6⟩, ⟨%d7, HB7⟩, ⟨%d8, HB8⟩, ⟨%d9, HB9⟩⟩
  iapply (run0 c _ _ _ _ _ _ _ _ _ _ _ _ _ _ _ _ _ _ _ _ _ _ _ _ _ _ _ _ _ _ (V m c main_arg0) (V m c main_arg2) (V m c main_arg4) (V m c main_arg14) (V m c main_arg10) (V m c main_arg6) (V m c main_arg8) W _)
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  isplitl [HB7]; · iexact HB7
  isplitl [HB8]; · iexact HB8
  isplitl [HB9]; · iexact HB9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hx_x]; · iexact Hx_x
  isplitl [Hx_w1]; · iexact Hx_w1
  isplitl [Hx_w2]; · iexact Hx_w2
  isplitl [Hx_dr]; · iexact Hx_dr
  isplitl [Hx_ch]; · iexact Hx_ch
  isplitl [Hx_tp1]; · iexact Hx_tp1
  isplitl [Hx_tp2]; · iexact Hx_tp2
  isplitl [HO0]; · iexact HO0
  isplitl [HO1]; · iexact HO1
  isplitl [HO2]; · iexact HO2
  isplitl [HW]; · iexact HW
  iintro ⟨HB0, HB1, HB2, HB3, HB4, HB5, HB6, HB7, HB8, HB9, HS0, HS1, HS2, HS3, HS4, HS5, HS6, HS7, HS8, HS9, Hq10, Hq11, Hq12, Hq13, Hq14, Hq15, Hq16, Hq17, Hq18, Hx_x, Hx_w1, Hx_w2, Hx_dr, Hx_ch, Hx_tp1, Hx_tp2, HO0, HO1, HO2, ⟨%W', HW'⟩⟩
  isplitl [HS0 HS1 HS2 HS3 HS4 HS5 HS6 HS7 HS8 HS9 Hg Hq10 Hq11 Hq12 Hq13 Hq14 Hq15 Hq16 Hq17 Hq18 Hx_x Hx_w1 Hx_w2 Hx_dr Hx_ch Hx_tp1 Hx_tp2 HO0 HO1 HO2]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Hq10 Hq11 Hq12 Hq13 Hq14 Hq15 Hq16 Hq17 Hq18]
    · isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [Hx_x Hx_w1 Hx_w2 Hx_dr Hx_ch Hx_tp1 Hx_tp2]
    · isplitl [Hx_x]; · iexact Hx_x
      isplitl [Hx_w1]; · iexact Hx_w1
      isplitl [Hx_w2]; · iexact Hx_w2
      isplitl [Hx_dr]; · iexact Hx_dr
      isplitl [Hx_ch]; · iexact Hx_ch
      isplitl [Hx_tp1]; · iexact Hx_tp1
      iexact Hx_tp2
    isplitl [HO0]; · iexact HO0
    isplitl [HO1]; · iexact HO1
    iexact HO2
  isplitl [HW']
  · iexists W'; isplitr; · ipureintro; exact fun _ _ => Or.inl trivial
    iexact HW'
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  isplitl [HB7]; · iexact HB7
  isplitl [HB8]; · iexact HB8
  iexact HB9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The lines after the region write only their own results. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals
    simp only [StableHlo.unary_writes, StableHlo.reshape_writes, Finset.mem_singleton] at hb
    have hb' := Proc.devRef_injective _ hb
    subst hb'
    decide

set_option backward.isDefEq.respectTransparency.types false in
/-- The whole program's run: it terminates, nothing faults, every buffer but the results and the later host lines' is as the region
    found it, every semaphore at zero. -/
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- THE FRAME: the program terminates, its arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c),
      ((h.1 c).2 main_arg12 (Finset.mem_sdiff.mpr ⟨Pipeline.mem_restRefs_of main_arg12 (by decide) (by decide), by decide⟩)).trans (V_main_arg12 m c),
      ((h.1 c).2 main_arg13 (Finset.mem_sdiff.mpr ⟨Pipeline.mem_restRefs_of main_arg13 (by decide) (by decide), by decide⟩)).trans (V_main_arg13 m c),
      ((h.1 c).2 main_arg14 (Finset.mem_sdiff.mpr ⟨Pipeline.mem_restRefs_of main_arg14 (by decide) (by decide), by decide⟩)).trans (V_main_arg14 m c),
      ((h.1 c).2 main_arg15 (Finset.mem_sdiff.mpr ⟨Pipeline.mem_restRefs_of main_arg15 (by decide) (by decide), by decide⟩)).trans (V_main_arg15 m c),
      ((h.1 c).1 5).trans (((dats m 0 c).arrAt_in 5 rfl _).trans ((A_eq m c 5).trans (V_main_arg16 m c))),
      ((h.1 c).2 main_arg17 (Finset.mem_sdiff.mpr ⟨Pipeline.mem_restRefs_of main_arg17 (by decide) (by decide), by decide⟩)).trans (V_main_arg17 m c),
      ((h.1 c).1 6).trans (((dats m 0 c).arrAt_in 6 rfl _).trans ((A_eq m c 6).trans (V_main_arg18 m c))),
      ((h.1 c).2 main_arg19 (Finset.mem_sdiff.mpr ⟨Pipeline.mem_restRefs_of main_arg19 (by decide) (by decide), by decide⟩)).trans (V_main_arg19 m c)⟩, h.2⟩) (run_main m ρ)

end Cert.KernelIdeal.Hand

end
-- ==== Proof.Ref.lean ====
/- Hand-written. The reference's run: its operations in windows, what each window computes, and the whole run with its six results. -/
module

public import proofs.«01_k».proof.ReferenceIdeal
public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The contents of one buffer type. -/
abbrev Ct (F : FTy → Type) (b : BufTy) : Type := b.Contents (Elt F)

/-- The operations computing the hidden state plus shift. -/
abbrev opsA : List (HloOp τ sig (Elt F)) :=
  [ StableHlo.unary main_arg2 main_v0 ((transpose S4096x1024 [1, 0] · transposes_S1024x4096_S4096x1024_1_0) : (⟨S1024x4096, .f32⟩ : BufTy).Contents (Elt F) → (⟨S4096x1024, .f32⟩ : BufTy).Contents (Elt F)),
    StableHlo.binary main_arg0 main_v0 main_v1 ((fun l r => Host.dotGeneral dot_S1024x4096_S4096x1024_S1024x1024_1_0_0_1_n_n none l r) : (⟨S1024x4096, .f32⟩ : BufTy).Contents (Elt F) → (⟨S4096x1024, .f32⟩ : BufTy).Contents (Elt F) → (⟨S1024x1024, .f32⟩ : BufTy).Contents (Elt F)),
    StableHlo.unary main_arg3 main_v2 (broadcastInDim S1x1024 ![1] bcast_S1024_S1x1024_1 : (⟨S1024, .f32⟩ : BufTy).Contents (Elt F) → (⟨S1x1024, .f32⟩ : BufTy).Contents (Elt F)),
    StableHlo.unary main_v2 main_v3 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v1 main_v3 main_v4 (addf : (⟨S1024x1024, .f32⟩ : BufTy).Contents (Elt F) → (⟨S1024x1024, .f32⟩ : BufTy).Contents (Elt F) → (⟨S1024x1024, .f32⟩ : BufTy).Contents (Elt F)),
    StableHlo.nullary main_call0_cst (constant S_ .f32 0x00000000#32),
    StableHlo.unary main_call0_cst main_call0_v0 (broadcastInDim S1024x1024 ![] bcast_S_S1024x1024),
    StableHlo.binary main_v4 main_call0_v0 main_v5 maximumf,
    StableHlo.unary main_arg4 main_v6 ((transpose S1024x1024 [1, 0] · transposes_S1024x1024_S1024x1024_1_0) : (⟨S1024x1024, .f32⟩ : BufTy).Contents (Elt F) → (⟨S1024x1024, .f32⟩ : BufTy).Contents (Elt F)),
    StableHlo.binary main_v5 main_v6 main_v7 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    StableHlo.unary main_arg5 main_v8 (broadcastInDim S1x1024 ![1] bcast_S1024_S1x1024_1 : (⟨S1024, .f32⟩ : BufTy).Contents (Elt F) → (⟨S1x1024, .f32⟩ : BufTy).Contents (Elt F)),
    StableHlo.unary main_v8 main_v9 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v7 main_v9 main_v10 (addf : (⟨S1024x1024, .f32⟩ : BufTy).Contents (Elt F) → (⟨S1024x1024, .f32⟩ : BufTy).Contents (Elt F) → (⟨S1024x1024, .f32⟩ : BufTy).Contents (Elt F)),
    StableHlo.unary main_arg1 main_v11 (sitofp .f32 : (⟨S_, .i32⟩ : BufTy).Contents (Elt F) → (⟨S_, .f32⟩ : BufTy).Contents (Elt F)),
    StableHlo.nullary main_cst (constant S_ .f32 0x3F000000#32),
    StableHlo.binary main_v11 main_cst main_v12 (mulf : (⟨S_, .f32⟩ : BufTy).Contents (Elt F) → (⟨S_, .f32⟩ : BufTy).Contents (Elt F) → (⟨S_, .f32⟩ : BufTy).Contents (Elt F)),
    StableHlo.unary main_v12 main_v13 (Host.sin : (⟨S_, .f32⟩ : BufTy).Contents (Elt F) → (⟨S_, .f32⟩ : BufTy).Contents (Elt F)),
    StableHlo.nullary main_cst_0 (constant S_ .f32 0x3DCCCCCD#32),
    StableHlo.binary main_cst_0 main_v13 main_v14 (mulf : (⟨S_, .f32⟩ : BufTy).Contents (Elt F) → (⟨S_, .f32⟩ : BufTy).Contents (Elt F) → (⟨S_, .f32⟩ : BufTy).Contents (Elt F)),
    StableHlo.unary main_v14 main_v15 (broadcastInDim S1024x1024 ![] bcast_S_S1024x1024 : (⟨S_, .f32⟩ : BufTy).Contents (Elt F) → (⟨S1024x1024, .f32⟩ : BufTy).Contents (Elt F)),
    StableHlo.binary main_v10 main_v15 main_v16 (addf : (⟨S1024x1024, .f32⟩ : BufTy).Contents (Elt F) → (⟨S1024x1024, .f32⟩ : BufTy).Contents (Elt F) → (⟨S1024x1024, .f32⟩ : BufTy).Contents (Elt F)) ]

/-- The hidden state plus shift, of what the operations read. -/
def rsT (x_arg2 : Ct F ⟨S1024x4096, .f32⟩) (x_arg0 : Ct F ⟨S1024x4096, .f32⟩) (x_arg3 : Ct F ⟨S1024, .f32⟩) (x_arg4 : Ct F ⟨S1024x1024, .f32⟩) (x_arg5 : Ct F ⟨S1024, .f32⟩) (x_arg1 : Ct F ⟨S_, .i32⟩) : Ct F ⟨S1024x1024, .f32⟩ :=
  (((addf : (⟨S1024x1024, .f32⟩ : BufTy).Contents (Elt F) → (⟨S1024x1024, .f32⟩ : BufTy).Contents (Elt F) → (⟨S1024x1024, .f32⟩ : BufTy).Contents (Elt F)) (((addf : (⟨S1024x1024, .f32⟩ : BufTy).Contents (Elt F) → (⟨S1024x1024, .f32⟩ : BufTy).Contents (Elt F) → (⟨S1024x1024, .f32⟩ : BufTy).Contents (Elt F)) ((((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)) ((maximumf (((addf : (⟨S1024x1024, .f32⟩ : BufTy).Contents (Elt F) → (⟨S1024x1024, .f32⟩ : BufTy).Contents (Elt F) → (⟨S1024x1024, .f32⟩ : BufTy).Contents (Elt F)) ((((fun l r => Host.dotGeneral dot_S1024x4096_S4096x1024_S1024x1024_1_0_0_1_n_n none l r) : (⟨S1024x4096, .f32⟩ : BufTy).Contents (Elt F) → (⟨S4096x1024, .f32⟩ : BufTy).Contents (Elt F) → (⟨S1024x1024, .f32⟩ : BufTy).Contents (Elt F)) x_arg0 ((((transpose S4096x1024 [1, 0] · transposes_S1024x4096_S4096x1024_1_0) : (⟨S1024x4096, .f32⟩ : BufTy).Contents (Elt F) → (⟨S4096x1024, .f32⟩ : BufTy).Contents (Elt F)) x_arg2) : Ct F ⟨S4096x1024, .f32⟩)) : Ct F ⟨S1024x1024, .f32⟩) (((broadcastInDim S1024x1024 ![0, 1] bcast_S1x1024_S1024x1024_0_1 : (⟨S1x1024, .f32⟩ : BufTy).Contents (Elt F) → (⟨S1024x1024, .f32⟩ : BufTy).Contents (Elt F)) (((broadcastInDim S1x1024 ![1] bcast_S1024_S1x1024_1 : (⟨S1024, .f32⟩ : BufTy).Contents (Elt F) → (⟨S1x1024, .f32⟩ : BufTy).Contents (Elt F)) x_arg3) : Ct F ⟨S1x1024, .f32⟩)) : Ct F ⟨S1024x1024, .f32⟩)) : Ct F ⟨S1024x1024, .f32⟩) (((broadcastInDim S1024x1024 ![] bcast_S_S1024x1024) ((constant S_ .f32 0x00000000#32) : Ct F ⟨S_, .f32⟩)) : Ct F ⟨S1024x1024, .f32⟩)) : Ct F ⟨S1024x1024, .f32⟩) ((((transpose S1024x1024 [1, 0] · transposes_S1024x1024_S1024x1024_1_0) : (⟨S1024x1024, .f32⟩ : BufTy).Contents (Elt F) → (⟨S1024x1024, .f32⟩ : BufTy).Contents (Elt F)) x_arg4) : Ct F ⟨S1024x1024, .f32⟩)) : Ct F ⟨S1024x1024, .f32⟩) (((broadcastInDim S1024x1024 ![0, 1] bcast_S1x1024_S1024x1024_0_1 : (⟨S1x1024, .f32⟩ : BufTy).Contents (Elt F) → (⟨S1024x1024, .f32⟩ : BufTy).Contents (Elt F)) (((broadcastInDim S1x1024 ![1] bcast_S1024_S1x1024_1 : (⟨S1024, .f32⟩ : BufTy).Contents (Elt F) → (⟨S1x1024, .f32⟩ : BufTy).Contents (Elt F)) x_arg5) : Ct F ⟨S1x1024, .f32⟩)) : Ct F ⟨S1024x1024, .f32⟩)) : Ct F ⟨S1024x1024, .f32⟩) (((broadcastInDim S1024x1024 ![] bcast_S_S1024x1024 : (⟨S_, .f32⟩ : BufTy).Contents (Elt F) → (⟨S1024x1024, .f32⟩ : BufTy).Contents (Elt F)) (((mulf : (⟨S_, .f32⟩ : BufTy).Contents (Elt F) → (⟨S_, .f32⟩ : BufTy).Contents (Elt F) → (⟨S_, .f32⟩ : BufTy).Contents (Elt F)) ((constant S_ .f32 0x3DCCCCCD#32) : Ct F ⟨S_, .f32⟩) (((Host.sin : (⟨S_, .f32⟩ : BufTy).Contents (Elt F) → (⟨S_, .f32⟩ : BufTy).Contents (Elt F)) (((mulf : (⟨S_, .f32⟩ : BufTy).Contents (Elt F) → (⟨S_, .f32⟩ : BufTy).Contents (Elt F) → (⟨S_, .f32⟩ : BufTy).Contents (Elt F)) (((sitofp .f32 : (⟨S_, .i32⟩ : BufTy).Contents (Elt F) → (⟨S_, .f32⟩ : BufTy).Contents (Elt F)) x_arg1) : Ct F ⟨S_, .f32⟩) ((constant S_ .f32 0x3F000000#32) : Ct F ⟨S_, .f32⟩)) : Ct F ⟨S_, .f32⟩)) : Ct F ⟨S_, .f32⟩)) : Ct F ⟨S_, .f32⟩)) : Ct F ⟨S1024x1024, .f32⟩)) : Ct F ⟨S1024x1024, .f32⟩)

/-- The references those operations write. -/
abbrev wrA : List (Ref sig .tc) := [main_v0, main_v1, main_v2, main_v3, main_v4, main_call0_cst, main_call0_v0, main_v5, main_v6, main_v7, main_v8, main_v9, main_v10, main_v11, main_cst, main_v12, main_v13, main_cst_0, main_v14, main_v15, main_v16]

theorem opsA_keep {r : Ref sig .tc} (hr : r ∉ wrA) (V : Valuation τ sig (Elt F)) :
    StableHlo.after opsA V (Proc.devRef .tc r) = V (Proc.devRef .tc r) :=
  StableHlo.after_unwritten wrA rfl hr V

theorem opsA_val (V : Valuation τ sig (Elt F)) :
    StableHlo.after opsA V (Proc.devRef .tc main_v16) = rsT (V (Proc.devRef .tc main_arg2)) (V (Proc.devRef .tc main_arg0)) (V (Proc.devRef .tc main_arg3)) (V (Proc.devRef .tc main_arg4)) (V (Proc.devRef .tc main_arg5)) (V (Proc.devRef .tc main_arg1)) := by
  after_reads_simp
  rfl

/-- The operations computing the two logits. -/
abbrev opsB : List (HloOp τ sig (Elt F)) :=
  [ StableHlo.unary main_arg10 main_v17 ((transpose S1024x512 [1, 0] · transposes_S512x1024_S1024x512_1_0) : (⟨S512x1024, .f32⟩ : BufTy).Contents (Elt F) → (⟨S1024x512, .f32⟩ : BufTy).Contents (Elt F)),
    StableHlo.binary main_v16 main_v17 main_v18 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    StableHlo.unary main_arg11 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S1024x512 ![0, 1] bcast_S1x512_S1024x512_0_1 : (⟨S1x512, .f32⟩ : BufTy).Contents (Elt F) → (⟨S1024x512, .f32⟩ : BufTy).Contents (Elt F)),
    StableHlo.binary main_v18 main_v20 main_v21 (addf : (⟨S1024x512, .f32⟩ : BufTy).Contents (Elt F) → (⟨S1024x512, .f32⟩ : BufTy).Contents (Elt F) → (⟨S1024x512, .f32⟩ : BufTy).Contents (Elt F)),
    StableHlo.nullary main_call1_cst (constant S_ .f32 0x00000000#32),
    StableHlo.unary main_call1_cst main_call1_v0 (broadcastInDim S1024x512 ![] bcast_S_S1024x512),
    StableHlo.binary main_v21 main_call1_v0 main_v22 maximumf,
    StableHlo.unary main_arg12 main_v23 ((transpose S512x2 [1, 0] · transposes_S2x512_S512x2_1_0) : (⟨S2x512, .f32⟩ : BufTy).Contents (Elt F) → (⟨S512x2, .f32⟩ : BufTy).Contents (Elt F)),
    StableHlo.binary main_v22 main_v23 main_v24 ((fun l r => Host.dotGeneral dot_S1024x512_S512x2_S1024x2_1_0_0_1_n_n none l r) : (⟨S1024x512, .f32⟩ : BufTy).Contents (Elt F) → (⟨S512x2, .f32⟩ : BufTy).Contents (Elt F) → (⟨S1024x2, .f32⟩ : BufTy).Contents (Elt F)),
    StableHlo.unary main_arg13 main_v25 (broadcastInDim S1x2 ![1] bcast_S2_S1x2_1 : (⟨S2, .f32⟩ : BufTy).Contents (Elt F) → (⟨S1x2, .f32⟩ : BufTy).Contents (Elt F)),
    StableHlo.unary main_v25 main_v26 (broadcastInDim S1024x2 ![0, 1] bcast_S1x2_S1024x2_0_1 : (⟨S1x2, .f32⟩ : BufTy).Contents (Elt F) → (⟨S1024x2, .f32⟩ : BufTy).Contents (Elt F)),
    StableHlo.binary main_v24 main_v26 main_v27 (addf : (⟨S1024x2, .f32⟩ : BufTy).Contents (Elt F) → (⟨S1024x2, .f32⟩ : BufTy).Contents (Elt F) → (⟨S1024x2, .f32⟩ : BufTy).Contents (Elt F)) ]

/-- The two logits, of what the operations read. -/
def logT (x_arg10 : Ct F ⟨S512x1024, .f32⟩) (x_v16 : Ct F ⟨S1024x1024, .f32⟩) (x_arg11 : Ct F ⟨S512, .f32⟩) (x_arg12 : Ct F ⟨S2x512, .f32⟩) (x_arg13 : Ct F ⟨S2, .f32⟩) : Ct F ⟨S1024x2, .f32⟩ :=
  (((addf : (⟨S1024x2, .f32⟩ : BufTy).Contents (Elt F) → (⟨S1024x2, .f32⟩ : BufTy).Contents (Elt F) → (⟨S1024x2, .f32⟩ : BufTy).Contents (Elt F)) ((((fun l r => Host.dotGeneral dot_S1024x512_S512x2_S1024x2_1_0_0_1_n_n none l r) : (⟨S1024x512, .f32⟩ : BufTy).Contents (Elt F) → (⟨S512x2, .f32⟩ : BufTy).Contents (Elt F) → (⟨S1024x2, .f32⟩ : BufTy).Contents (Elt F)) ((maximumf (((addf : (⟨S1024x512, .f32⟩ : BufTy).Contents (Elt F) → (⟨S1024x512, .f32⟩ : BufTy).Contents (Elt F) → (⟨S1024x512, .f32⟩ : BufTy).Contents (Elt F)) ((((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)) x_v16 ((((transpose S1024x512 [1, 0] · transposes_S512x1024_S1024x512_1_0) : (⟨S512x1024, .f32⟩ : BufTy).Contents (Elt F) → (⟨S1024x512, .f32⟩ : BufTy).Contents (Elt F)) x_arg10) : Ct F ⟨S1024x512, .f32⟩)) : Ct F ⟨S1024x512, .f32⟩) (((broadcastInDim S1024x512 ![0, 1] bcast_S1x512_S1024x512_0_1 : (⟨S1x512, .f32⟩ : BufTy).Contents (Elt F) → (⟨S1024x512, .f32⟩ : BufTy).Contents (Elt F)) (((broadcastInDim S1x512 ![1] bcast_S512_S1x512_1 : (⟨S512, .f32⟩ : BufTy).Contents (Elt F) → (⟨S1x512, .f32⟩ : BufTy).Contents (Elt F)) x_arg11) : Ct F ⟨S1x512, .f32⟩)) : Ct F ⟨S1024x512, .f32⟩)) : Ct F ⟨S1024x512, .f32⟩) (((broadcastInDim S1024x512 ![] bcast_S_S1024x512) ((constant S_ .f32 0x00000000#32) : Ct F ⟨S_, .f32⟩)) : Ct F ⟨S1024x512, .f32⟩)) : Ct F ⟨S1024x512, .f32⟩) ((((transpose S512x2 [1, 0] · transposes_S2x512_S512x2_1_0) : (⟨S2x512, .f32⟩ : BufTy).Contents (Elt F) → (⟨S512x2, .f32⟩ : BufTy).Contents (Elt F)) x_arg12) : Ct F ⟨S512x2, .f32⟩)) : Ct F ⟨S1024x2, .f32⟩) (((broadcastInDim S1024x2 ![0, 1] bcast_S1x2_S1024x2_0_1 : (⟨S1x2, .f32⟩ : BufTy).Contents (Elt F) → (⟨S1024x2, .f32⟩ : BufTy).Contents (Elt F)) (((broadcastInDim S1x2 ![1] bcast_S2_S1x2_1 : (⟨S2, .f32⟩ : BufTy).Contents (Elt F) → (⟨S1x2, .f32⟩ : BufTy).Contents (Elt F)) x_arg13) : Ct F ⟨S1x2, .f32⟩)) : Ct F ⟨S1024x2, .f32⟩)) : Ct F ⟨S1024x2, .f32⟩)

/-- The references those operations write. -/
abbrev wrB : List (Ref sig .tc) := [main_v17, main_v18, main_v19, main_v20, main_v21, main_call1_cst, main_call1_v0, main_v22, main_v23, main_v24, main_v25, main_v26, main_v27]

theorem opsB_keep {r : Ref sig .tc} (hr : r ∉ wrB) (V : Valuation τ sig (Elt F)) :
    StableHlo.after opsB V (Proc.devRef .tc r) = V (Proc.devRef .tc r) :=
  StableHlo.after_unwritten wrB rfl hr V

theorem opsB_val (V : Valuation τ sig (Elt F)) :
    StableHlo.after opsB V (Proc.devRef .tc main_v27) = logT (V (Proc.devRef .tc main_arg10)) (V (Proc.devRef .tc main_v16)) (V (Proc.devRef .tc main_arg11)) (V (Proc.devRef .tc main_arg12)) (V (Proc.devRef .tc main_arg13)) := by
  after_reads_simp
  rfl

/-- The operations computing the softmax of the logits. -/
abbrev opsC : List (HloOp τ sig (Elt F)) :=
  [ StableHlo.nullary main_cst_1 (constant S_ .f32 0xFF800000#32),
    StableHlo.binary main_v27 main_cst_1 main_v28 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)),
    StableHlo.nullary main_cst_2 (constant S_ .f32 0xFF800000#32),
    StableHlo.unary main_cst_2 main_v29 (broadcastInDim S1024 ![] bcast_S_S1024 : (⟨S_, .f32⟩ : BufTy).Contents (Elt F) → (⟨S1024, .f32⟩ : BufTy).Contents (Elt F)),
    StableHlo.binary main_v29 main_v28 main_v30 (maximumf : (⟨S1024, .f32⟩ : BufTy).Contents (Elt F) → (⟨S1024, .f32⟩ : BufTy).Contents (Elt F) → (⟨S1024, .f32⟩ : BufTy).Contents (Elt F)),
    StableHlo.unary main_v30 main_v31 (broadcastInDim S1024x1 ![0] bcast_S1024_S1024x1_0 : (⟨S1024, .f32⟩ : BufTy).Contents (Elt F) → (⟨S1024x1, .f32⟩ : BufTy).Contents (Elt F)),
    StableHlo.unary main_v31 main_v32 (broadcastInDim S1024x2 ![0, 1] bcast_S1024x1_S1024x2_0_1 : (⟨S1024x1, .f32⟩ : BufTy).Contents (Elt F) → (⟨S1024x2, .f32⟩ : BufTy).Contents (Elt F)),
    StableHlo.binary main_v27 main_v32 main_v33 (subf : (⟨S1024x2, .f32⟩ : BufTy).Contents (Elt F) → (⟨S1024x2, .f32⟩ : BufTy).Contents (Elt F) → (⟨S1024x2, .f32⟩ : BufTy).Contents (Elt F)),
    StableHlo.unary main_v33 main_v34 (Host.exp : (⟨S1024x2, .f32⟩ : BufTy).Contents (Elt F) → (⟨S1024x2, .f32⟩ : BufTy).Contents (Elt F)),
    StableHlo.nullary main_cst_3 (constant S_ .f32 0x00000000#32),
    StableHlo.binary main_v34 main_cst_3 main_v35 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    StableHlo.unary main_v35 main_v36 (broadcastInDim S1024x1 ![0] bcast_S1024_S1024x1_0 : (⟨S1024, .f32⟩ : BufTy).Contents (Elt F) → (⟨S1024x1, .f32⟩ : BufTy).Contents (Elt F)),
    StableHlo.unary main_v36 main_v37 (broadcastInDim S1024x2 ![0, 1] bcast_S1024x1_S1024x2_0_1 : (⟨S1024x1, .f32⟩ : BufTy).Contents (Elt F) → (⟨S1024x2, .f32⟩ : BufTy).Contents (Elt F)),
    StableHlo.binary main_v34 main_v37 main_v38 (Host.divf : (⟨S1024x2, .f32⟩ : BufTy).Contents (Elt F) → (⟨S1024x2, .f32⟩ : BufTy).Contents (Elt F) → (⟨S1024x2, .f32⟩ : BufTy).Contents (Elt F)) ]

/-- The softmax of the logits, of what the operations read. -/
def prT (x_v27 : Ct F ⟨S1024x2, .f32⟩) : Ct F ⟨S1024x2, .f32⟩ :=
  (((Host.divf : (⟨S1024x2, .f32⟩ : BufTy).Contents (Elt F) → (⟨S1024x2, .f32⟩ : BufTy).Contents (Elt F) → (⟨S1024x2, .f32⟩ : BufTy).Contents (Elt F)) (((Host.exp : (⟨S1024x2, .f32⟩ : BufTy).Contents (Elt F) → (⟨S1024x2, .f32⟩ : BufTy).Contents (Elt F)) (((subf : (⟨S1024x2, .f32⟩ : BufTy).Contents (Elt F) → (⟨S1024x2, .f32⟩ : BufTy).Contents (Elt F) → (⟨S1024x2, .f32⟩ : BufTy).Contents (Elt F)) x_v27 (((broadcastInDim S1024x2 ![0, 1] bcast_S1024x1_S1024x2_0_1 : (⟨S1024x1, .f32⟩ : BufTy).Contents (Elt F) → (⟨S1024x2, .f32⟩ : BufTy).Contents (Elt F)) (((broadcastInDim S1024x1 ![0] bcast_S1024_S1024x1_0 : (⟨S1024, .f32⟩ : BufTy).Contents (Elt F) → (⟨S1024x1, .f32⟩ : BufTy).Contents (Elt F)) (((maximumf : (⟨S1024, .f32⟩ : BufTy).Contents (Elt F) → (⟨S1024, .f32⟩ : BufTy).Contents (Elt F) → (⟨S1024, .f32⟩ : BufTy).Contents (Elt F)) (((broadcastInDim S1024 ![] bcast_S_S1024 : (⟨S_, .f32⟩ : BufTy).Contents (Elt F) → (⟨S1024, .f32⟩ : BufTy).Contents (Elt F)) ((constant S_ .f32 0xFF800000#32) : Ct F ⟨S_, .f32⟩)) : Ct F ⟨S1024, .f32⟩) ((((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)) x_v27 ((constant S_ .f32 0xFF800000#32) : Ct F ⟨S_, .f32⟩)) : Ct F ⟨S1024, .f32⟩)) : Ct F ⟨S1024, .f32⟩)) : Ct F ⟨S1024x1, .f32⟩)) : Ct F ⟨S1024x2, .f32⟩)) : Ct F ⟨S1024x2, .f32⟩)) : Ct F ⟨S1024x2, .f32⟩) (((broadcastInDim S1024x2 ![0, 1] bcast_S1024x1_S1024x2_0_1 : (⟨S1024x1, .f32⟩ : BufTy).Contents (Elt F) → (⟨S1024x2, .f32⟩ : BufTy).Contents (Elt F)) (((broadcastInDim S1024x1 ![0] bcast_S1024_S1024x1_0 : (⟨S1024, .f32⟩ : BufTy).Contents (Elt F) → (⟨S1024x1, .f32⟩ : BufTy).Contents (Elt F)) ((((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)) (((Host.exp : (⟨S1024x2, .f32⟩ : BufTy).Contents (Elt F) → (⟨S1024x2, .f32⟩ : BufTy).Contents (Elt F)) (((subf : (⟨S1024x2, .f32⟩ : BufTy).Contents (Elt F) → (⟨S1024x2, .f32⟩ : BufTy).Contents (Elt F) → (⟨S1024x2, .f32⟩ : BufTy).Contents (Elt F)) x_v27 (((broadcastInDim S1024x2 ![0, 1] bcast_S1024x1_S1024x2_0_1 : (⟨S1024x1, .f32⟩ : BufTy).Contents (Elt F) → (⟨S1024x2, .f32⟩ : BufTy).Contents (Elt F)) (((broadcastInDim S1024x1 ![0] bcast_S1024_S1024x1_0 : (⟨S1024, .f32⟩ : BufTy).Contents (Elt F) → (⟨S1024x1, .f32⟩ : BufTy).Contents (Elt F)) (((maximumf : (⟨S1024, .f32⟩ : BufTy).Contents (Elt F) → (⟨S1024, .f32⟩ : BufTy).Contents (Elt F) → (⟨S1024, .f32⟩ : BufTy).Contents (Elt F)) (((broadcastInDim S1024 ![] bcast_S_S1024 : (⟨S_, .f32⟩ : BufTy).Contents (Elt F) → (⟨S1024, .f32⟩ : BufTy).Contents (Elt F)) ((constant S_ .f32 0xFF800000#32) : Ct F ⟨S_, .f32⟩)) : Ct F ⟨S1024, .f32⟩) ((((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)) x_v27 ((constant S_ .f32 0xFF800000#32) : Ct F ⟨S_, .f32⟩)) : Ct F ⟨S1024, .f32⟩)) : Ct F ⟨S1024, .f32⟩)) : Ct F ⟨S1024x1, .f32⟩)) : Ct F ⟨S1024x2, .f32⟩)) : Ct F ⟨S1024x2, .f32⟩)) : Ct F ⟨S1024x2, .f32⟩) ((constant S_ .f32 0x00000000#32) : Ct F ⟨S_, .f32⟩)) : Ct F ⟨S1024, .f32⟩)) : Ct F ⟨S1024x1, .f32⟩)) : Ct F ⟨S1024x2, .f32⟩)) : Ct F ⟨S1024x2, .f32⟩)

/-- The references those operations write. -/
abbrev wrC : List (Ref sig .tc) := [main_cst_1, main_v28, main_cst_2, main_v29, main_v30, main_v31, main_v32, main_v33, main_v34, main_cst_3, main_v35, main_v36, main_v37, main_v38]

theorem opsC_keep {r : Ref sig .tc} (hr : r ∉ wrC) (V : Valuation τ sig (Elt F)) :
    StableHlo.after opsC V (Proc.devRef .tc r) = V (Proc.devRef .tc r) :=
  StableHlo.after_unwritten wrC rfl hr V

theorem opsC_val (V : Valuation τ sig (Elt F)) :
    StableHlo.after opsC V (Proc.devRef .tc main_v38) = prT (V (Proc.devRef .tc main_v27)) := by
  after_reads_simp
  rfl

/-- The operations computing the chosen action. -/
abbrev opsD : List (HloOp τ sig (Elt F)) :=
  [ StableHlo.nullary main_call2_v0 (iotaInDim S1024x2 32 1),
    StableHlo.nullary main_call2_cst (constant S_ .f32 0xFF800000#32),
    StableHlo.nullary main_call2_c (constantI S_ 32 0#32),
    StableHlo.quaternary main_v38 main_call2_v0 main_call2_cst main_call2_c main_call2_v1_0 (fun x y u v j => (Host.argReduce reducer_argmax_f32_i32 x y u v reducesTo_S1024x2_S1024_d1 h_S_ j).1),
    StableHlo.quaternary main_v38 main_call2_v0 main_call2_cst main_call2_c main_v39 (fun x y u v j => (Host.argReduce reducer_argmax_f32_i32 x y u v reducesTo_S1024x2_S1024_d1 h_S_ j).2) ]

/-- The chosen action, of what the operations read. -/
def amT (x_v38 : Ct F ⟨S1024x2, .f32⟩) : Ct F ⟨S1024, .i32⟩ :=
  (((fun x y u v j => (Host.argReduce reducer_argmax_f32_i32 x y u v reducesTo_S1024x2_S1024_d1 h_S_ j).2) x_v38 ((iotaInDim S1024x2 32 1) : Ct F ⟨S1024x2, .i32⟩) ((constant S_ .f32 0xFF800000#32) : Ct F ⟨S_, .f32⟩) ((constantI S_ 32 0#32) : Ct F ⟨S_, .i32⟩)) : Ct F ⟨S1024, .i32⟩)

/-- The references those operations write. -/
abbrev wrD : List (Ref sig .tc) := [main_call2_v0, main_call2_cst, main_call2_c, main_call2_v1_0, main_v39]

theorem opsD_keep {r : Ref sig .tc} (hr : r ∉ wrD) (V : Valuation τ sig (Elt F)) :
    StableHlo.after opsD V (Proc.devRef .tc r) = V (Proc.devRef .tc r) :=
  StableHlo.after_unwritten wrD rfl hr V

theorem opsD_val (V : Valuation τ sig (Elt F)) :
    StableHlo.after opsD V (Proc.devRef .tc main_v39) = amT (V (Proc.devRef .tc main_v38)) := by
  after_reads_simp
  rfl

/-- The operations computing the raw direction. -/
abbrev opsE : List (HloOp τ sig (Elt F)) :=
  [ StableHlo.unary main_arg14 main_v40 ((transpose S1024x1024 [1, 0] · transposes_S1024x1024_S1024x1024_1_0) : (⟨S1024x1024, .f32⟩ : BufTy).Contents (Elt F) → (⟨S1024x1024, .f32⟩ : BufTy).Contents (Elt F)),
    StableHlo.binary main_v16 main_v40 main_v41 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    StableHlo.unary main_arg15 main_v42 (broadcastInDim S1x1024 ![1] bcast_S1024_S1x1024_1 : (⟨S1024, .f32⟩ : BufTy).Contents (Elt F) → (⟨S1x1024, .f32⟩ : BufTy).Contents (Elt F)),
    StableHlo.unary main_v42 main_v43 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v41 main_v43 main_v44 (addf : (⟨S1024x1024, .f32⟩ : BufTy).Contents (Elt F) → (⟨S1024x1024, .f32⟩ : BufTy).Contents (Elt F) → (⟨S1024x1024, .f32⟩ : BufTy).Contents (Elt F)) ]

/-- The raw direction, of what the operations read. -/
def drT (x_arg14 : Ct F ⟨S1024x1024, .f32⟩) (x_v16 : Ct F ⟨S1024x1024, .f32⟩) (x_arg15 : Ct F ⟨S1024, .f32⟩) : Ct F ⟨S1024x1024, .f32⟩ :=
  (((addf : (⟨S1024x1024, .f32⟩ : BufTy).Contents (Elt F) → (⟨S1024x1024, .f32⟩ : BufTy).Contents (Elt F) → (⟨S1024x1024, .f32⟩ : BufTy).Contents (Elt F)) ((((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)) x_v16 ((((transpose S1024x1024 [1, 0] · transposes_S1024x1024_S1024x1024_1_0) : (⟨S1024x1024, .f32⟩ : BufTy).Contents (Elt F) → (⟨S1024x1024, .f32⟩ : BufTy).Contents (Elt F)) x_arg14) : Ct F ⟨S1024x1024, .f32⟩)) : Ct F ⟨S1024x1024, .f32⟩) (((broadcastInDim S1024x1024 ![0, 1] bcast_S1x1024_S1024x1024_0_1 : (⟨S1x1024, .f32⟩ : BufTy).Contents (Elt F) → (⟨S1024x1024, .f32⟩ : BufTy).Contents (Elt F)) (((broadcastInDim S1x1024 ![1] bcast_S1024_S1x1024_1 : (⟨S1024, .f32⟩ : BufTy).Contents (Elt F) → (⟨S1x1024, .f32⟩ : BufTy).Contents (Elt F)) x_arg15) : Ct F ⟨S1x1024, .f32⟩)) : Ct F ⟨S1024x1024, .f32⟩)) : Ct F ⟨S1024x1024, .f32⟩)

/-- The references those operations write. -/
abbrev wrE : List (Ref sig .tc) := [main_v40, main_v41, main_v42, main_v43, main_v44]

theorem opsE_keep {r : Ref sig .tc} (hr : r ∉ wrE) (V : Valuation τ sig (Elt F)) :
    StableHlo.after opsE V (Proc.devRef .tc r) = V (Proc.devRef .tc r) :=
  StableHlo.after_unwritten wrE rfl hr V

theorem opsE_val (V : Valuation τ sig (Elt F)) :
    StableHlo.after opsE V (Proc.devRef .tc main_v44) = drT (V (Proc.devRef .tc main_arg14)) (V (Proc.devRef .tc main_v16)) (V (Proc.devRef .tc main_arg15)) := by
  after_reads_simp
  rfl

/-- The operations computing the direction over its norm. -/
abbrev opsF : List (HloOp τ sig (Elt F)) :=
  [ StableHlo.binary main_v44 main_v44 main_call3_v0 mulf,
    StableHlo.nullary main_call3_cst (constant S_ .f32 0x00000000#32),
    StableHlo.binary main_call3_v0 main_call3_cst main_call3_v1 (fun x v => Host.reduceAdd x v reducesTo_S1024x1024_S1024_d1 h_S_),
    StableHlo.unary main_call3_v1 main_call3_v2 (broadcastInDim S1024x1 ![0] bcast_S1024_S1024x1_0),
    StableHlo.unary main_call3_v2 main_v45 Host.sqrt,
    StableHlo.nullary main_cst_4 (constant S_ .f32 0x2B8CBCCC#32),
    StableHlo.unary main_cst_4 main_v46 (broadcastInDim S1024x1 ![] bcast_S_S1024x1 : (⟨S_, .f32⟩ : BufTy).Contents (Elt F) → (⟨S1024x1, .f32⟩ : BufTy).Contents (Elt F)),
    StableHlo.binary main_v45 main_v46 main_v47 (maximumf : (⟨S1024x1, .f32⟩ : BufTy).Contents (Elt F) → (⟨S1024x1, .f32⟩ : BufTy).Contents (Elt F) → (⟨S1024x1, .f32⟩ : BufTy).Contents (Elt F)),
    StableHlo.unary main_v47 main_v48 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v44 main_v48 main_v49 (Host.divf : (⟨S1024x1024, .f32⟩ : BufTy).Contents (Elt F) → (⟨S1024x1024, .f32⟩ : BufTy).Contents (Elt F) → (⟨S1024x1024, .f32⟩ : BufTy).Contents (Elt F)) ]

/-- The direction over its norm, of what the operations read. -/
def dirT (x_v44 : Ct F ⟨S1024x1024, .f32⟩) : Ct F ⟨S1024x1024, .f32⟩ :=
  (((Host.divf : (⟨S1024x1024, .f32⟩ : BufTy).Contents (Elt F) → (⟨S1024x1024, .f32⟩ : BufTy).Contents (Elt F) → (⟨S1024x1024, .f32⟩ : BufTy).Contents (Elt F)) x_v44 (((broadcastInDim S1024x1024 ![0, 1] bcast_S1024x1_S1024x1024_0_1 : (⟨S1024x1, .f32⟩ : BufTy).Contents (Elt F) → (⟨S1024x1024, .f32⟩ : BufTy).Contents (Elt F)) (((maximumf : (⟨S1024x1, .f32⟩ : BufTy).Contents (Elt F) → (⟨S1024x1, .f32⟩ : BufTy).Contents (Elt F) → (⟨S1024x1, .f32⟩ : BufTy).Contents (Elt F)) ((Host.sqrt (((broadcastInDim S1024x1 ![0] bcast_S1024_S1024x1_0) (((fun x v => Host.reduceAdd x v reducesTo_S1024x1024_S1024_d1 h_S_) ((mulf x_v44 x_v44) : Ct F ⟨S1024x1024, .f32⟩) ((constant S_ .f32 0x00000000#32) : Ct F ⟨S_, .f32⟩)) : Ct F ⟨S1024, .f32⟩)) : Ct F ⟨S1024x1, .f32⟩)) : Ct F ⟨S1024x1, .f32⟩) (((broadcastInDim S1024x1 ![] bcast_S_S1024x1 : (⟨S_, .f32⟩ : BufTy).Contents (Elt F) → (⟨S1024x1, .f32⟩ : BufTy).Contents (Elt F)) ((constant S_ .f32 0x2B8CBCCC#32) : Ct F ⟨S_, .f32⟩)) : Ct F ⟨S1024x1, .f32⟩)) : Ct F ⟨S1024x1, .f32⟩)) : Ct F ⟨S1024x1024, .f32⟩)) : Ct F ⟨S1024x1024, .f32⟩)

/-- The references those operations write. -/
abbrev wrF : List (Ref sig .tc) := [main_call3_v0, main_call3_cst, main_call3_v1, main_call3_v2, main_v45, main_cst_4, main_v46, main_v47, main_v48, main_v49]

theorem opsF_keep {r : Ref sig .tc} (hr : r ∉ wrF) (V : Valuation τ sig (Elt F)) :
    StableHlo.after opsF V (Proc.devRef .tc r) = V (Proc.devRef .tc r) :=
  StableHlo.after_unwritten wrF rfl hr V

theorem opsF_val (V : Valuation τ sig (Elt F)) :
    StableHlo.after opsF V (Proc.devRef .tc main_v49) = dirT (V (Proc.devRef .tc main_v44)) := by
  after_reads_simp
  rfl

/-- The operations computing the step size. -/
abbrev opsG : List (HloOp τ sig (Elt F)) :=
  [ StableHlo.unary main_arg16 main_v50 ((transpose S1024x1 [1, 0] · transposes_S1x1024_S1024x1_1_0) : (⟨S1x1024, .f32⟩ : BufTy).Contents (Elt F) → (⟨S1024x1, .f32⟩ : BufTy).Contents (Elt F)),
    StableHlo.binary main_v16 main_v50 main_v51 ((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)),
    StableHlo.unary main_arg17 main_v52 (broadcastInDim S1x1 ![1] bcast_S1_S1x1_1 : (⟨S1, .f32⟩ : BufTy).Contents (Elt F) → (⟨S1x1, .f32⟩ : BufTy).Contents (Elt F)),
    StableHlo.unary main_v52 main_v53 (broadcastInDim S1024x1 ![0, 1] bcast_S1x1_S1024x1_0_1 : (⟨S1x1, .f32⟩ : BufTy).Contents (Elt F) → (⟨S1024x1, .f32⟩ : BufTy).Contents (Elt F)),
    StableHlo.binary main_v51 main_v53 main_v54 (addf : (⟨S1024x1, .f32⟩ : BufTy).Contents (Elt F) → (⟨S1024x1, .f32⟩ : BufTy).Contents (Elt F) → (⟨S1024x1, .f32⟩ : BufTy).Contents (Elt F)),
    StableHlo.unary main_v54 main_v55 (Host.negf : (⟨S1024x1, .f32⟩ : BufTy).Contents (Elt F) → (⟨S1024x1, .f32⟩ : BufTy).Contents (Elt F)),
    StableHlo.unary main_v55 main_v56 (Host.exp : (⟨S1024x1, .f32⟩ : BufTy).Contents (Elt F) → (⟨S1024x1, .f32⟩ : BufTy).Contents (Elt F)),
    StableHlo.nullary main_cst_5 (constant S_ .f32 0x3F800000#32),
    StableHlo.unary main_cst_5 main_v57 (broadcastInDim S1024x1 ![] bcast_S_S1024x1 : (⟨S_, .f32⟩ : BufTy).Contents (Elt F) → (⟨S1024x1, .f32⟩ : BufTy).Contents (Elt F)),
    StableHlo.binary main_v57 main_v56 main_v58 (addf : (⟨S1024x1, .f32⟩ : BufTy).Contents (Elt F) → (⟨S1024x1, .f32⟩ : BufTy).Contents (Elt F) → (⟨S1024x1, .f32⟩ : BufTy).Contents (Elt F)),
    StableHlo.nullary main_cst_6 (constant S_ .f32 0x3F800000#32),
    StableHlo.unary main_cst_6 main_v59 (broadcastInDim S1024x1 ![] bcast_S_S1024x1 : (⟨S_, .f32⟩ : BufTy).Contents (Elt F) → (⟨S1024x1, .f32⟩ : BufTy).Contents (Elt F)),
    StableHlo.binary main_v59 main_v58 main_v60 (Host.divf : (⟨S1024x1, .f32⟩ : BufTy).Contents (Elt F) → (⟨S1024x1, .f32⟩ : BufTy).Contents (Elt F) → (⟨S1024x1, .f32⟩ : BufTy).Contents (Elt F)),
    StableHlo.nullary main_cst_7 (constant S_ .f32 0x40000000#32),
    StableHlo.unary main_cst_7 main_v61 (broadcastInDim S1024x1 ![] bcast_S_S1024x1 : (⟨S_, .f32⟩ : BufTy).Contents (Elt F) → (⟨S1024x1, .f32⟩ : BufTy).Contents (Elt F)),
    StableHlo.binary main_v60 main_v61 main_v62 (mulf : (⟨S1024x1, .f32⟩ : BufTy).Contents (Elt F) → (⟨S1024x1, .f32⟩ : BufTy).Contents (Elt F) → (⟨S1024x1, .f32⟩ : BufTy).Contents (Elt F)) ]

/-- The step size, of what the operations read. -/
def stT (x_arg16 : Ct F ⟨S1x1024, .f32⟩) (x_v16 : Ct F ⟨S1024x1024, .f32⟩) (x_arg17 : Ct F ⟨S1, .f32⟩) : Ct F ⟨S1024x1, .f32⟩ :=
  (((mulf : (⟨S1024x1, .f32⟩ : BufTy).Contents (Elt F) → (⟨S1024x1, .f32⟩ : BufTy).Contents (Elt F) → (⟨S1024x1, .f32⟩ : BufTy).Contents (Elt F)) (((Host.divf : (⟨S1024x1, .f32⟩ : BufTy).Contents (Elt F) → (⟨S1024x1, .f32⟩ : BufTy).Contents (Elt F) → (⟨S1024x1, .f32⟩ : BufTy).Contents (Elt F)) (((broadcastInDim S1024x1 ![] bcast_S_S1024x1 : (⟨S_, .f32⟩ : BufTy).Contents (Elt F) → (⟨S1024x1, .f32⟩ : BufTy).Contents (Elt F)) ((constant S_ .f32 0x3F800000#32) : Ct F ⟨S_, .f32⟩)) : Ct F ⟨S1024x1, .f32⟩) (((addf : (⟨S1024x1, .f32⟩ : BufTy).Contents (Elt F) → (⟨S1024x1, .f32⟩ : BufTy).Contents (Elt F) → (⟨S1024x1, .f32⟩ : BufTy).Contents (Elt F)) (((broadcastInDim S1024x1 ![] bcast_S_S1024x1 : (⟨S_, .f32⟩ : BufTy).Contents (Elt F) → (⟨S1024x1, .f32⟩ : BufTy).Contents (Elt F)) ((constant S_ .f32 0x3F800000#32) : Ct F ⟨S_, .f32⟩)) : Ct F ⟨S1024x1, .f32⟩) (((Host.exp : (⟨S1024x1, .f32⟩ : BufTy).Contents (Elt F) → (⟨S1024x1, .f32⟩ : BufTy).Contents (Elt F)) (((Host.negf : (⟨S1024x1, .f32⟩ : BufTy).Contents (Elt F) → (⟨S1024x1, .f32⟩ : BufTy).Contents (Elt F)) (((addf : (⟨S1024x1, .f32⟩ : BufTy).Contents (Elt F) → (⟨S1024x1, .f32⟩ : BufTy).Contents (Elt F) → (⟨S1024x1, .f32⟩ : BufTy).Contents (Elt F)) ((((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)) x_v16 ((((transpose S1024x1 [1, 0] · transposes_S1x1024_S1024x1_1_0) : (⟨S1x1024, .f32⟩ : BufTy).Contents (Elt F) → (⟨S1024x1, .f32⟩ : BufTy).Contents (Elt F)) x_arg16) : Ct F ⟨S1024x1, .f32⟩)) : Ct F ⟨S1024x1, .f32⟩) (((broadcastInDim S1024x1 ![0, 1] bcast_S1x1_S1024x1_0_1 : (⟨S1x1, .f32⟩ : BufTy).Contents (Elt F) → (⟨S1024x1, .f32⟩ : BufTy).Contents (Elt F)) (((broadcastInDim S1x1 ![1] bcast_S1_S1x1_1 : (⟨S1, .f32⟩ : BufTy).Contents (Elt F) → (⟨S1x1, .f32⟩ : BufTy).Contents (Elt F)) x_arg17) : Ct F ⟨S1x1, .f32⟩)) : Ct F ⟨S1024x1, .f32⟩)) : Ct F ⟨S1024x1, .f32⟩)) : Ct F ⟨S1024x1, .f32⟩)) : Ct F ⟨S1024x1, .f32⟩)) : Ct F ⟨S1024x1, .f32⟩)) : Ct F ⟨S1024x1, .f32⟩) (((broadcastInDim S1024x1 ![] bcast_S_S1024x1 : (⟨S_, .f32⟩ : BufTy).Contents (Elt F) → (⟨S1024x1, .f32⟩ : BufTy).Contents (Elt F)) ((constant S_ .f32 0x40000000#32) : Ct F ⟨S_, .f32⟩)) : Ct F ⟨S1024x1, .f32⟩)) : Ct F ⟨S1024x1, .f32⟩)

/-- The references those operations write. -/
abbrev wrG : List (Ref sig .tc) := [main_v50, main_v51, main_v52, main_v53, main_v54, main_v55, main_v56, main_cst_5, main_v57, main_v58, main_cst_6, main_v59, main_v60, main_cst_7, main_v61, main_v62]

theorem opsG_keep {r : Ref sig .tc} (hr : r ∉ wrG) (V : Valuation τ sig (Elt F)) :
    StableHlo.after opsG V (Proc.devRef .tc r) = V (Proc.devRef .tc r) :=
  StableHlo.after_unwritten wrG rfl hr V

theorem opsG_val (V : Valuation τ sig (Elt F)) :
    StableHlo.after opsG V (Proc.devRef .tc main_v62) = stT (V (Proc.devRef .tc main_arg16)) (V (Proc.devRef .tc main_v16)) (V (Proc.devRef .tc main_arg17)) := by
  after_reads_simp
  rfl

/-- The operations computing the value head. -/
abbrev opsH : List (HloOp τ sig (Elt F)) :=
  [ StableHlo.unary main_arg18 main_v63 ((transpose S1024x1 [1, 0] · transposes_S1x1024_S1024x1_1_0) : (⟨S1x1024, .f32⟩ : BufTy).Contents (Elt F) → (⟨S1024x1, .f32⟩ : BufTy).Contents (Elt F)),
    StableHlo.binary main_v16 main_v63 main_v64 ((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)),
    StableHlo.unary main_arg19 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S1024x1 ![0, 1] bcast_S1x1_S1024x1_0_1 : (⟨S1x1, .f32⟩ : BufTy).Contents (Elt F) → (⟨S1024x1, .f32⟩ : BufTy).Contents (Elt F)),
    StableHlo.binary main_v64 main_v66 main_v67 (addf : (⟨S1024x1, .f32⟩ : BufTy).Contents (Elt F) → (⟨S1024x1, .f32⟩ : BufTy).Contents (Elt F) → (⟨S1024x1, .f32⟩ : BufTy).Contents (Elt F)) ]

/-- The value head, of what the operations read. -/
def vaT (x_arg18 : Ct F ⟨S1x1024, .f32⟩) (x_v16 : Ct F ⟨S1024x1024, .f32⟩) (x_arg19 : Ct F ⟨S1, .f32⟩) : Ct F ⟨S1024x1, .f32⟩ :=
  (((addf : (⟨S1024x1, .f32⟩ : BufTy).Contents (Elt F) → (⟨S1024x1, .f32⟩ : BufTy).Contents (Elt F) → (⟨S1024x1, .f32⟩ : BufTy).Contents (Elt F)) ((((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)) x_v16 ((((transpose S1024x1 [1, 0] · transposes_S1x1024_S1024x1_1_0) : (⟨S1x1024, .f32⟩ : BufTy).Contents (Elt F) → (⟨S1024x1, .f32⟩ : BufTy).Contents (Elt F)) x_arg18) : Ct F ⟨S1024x1, .f32⟩)) : Ct F ⟨S1024x1, .f32⟩) (((broadcastInDim S1024x1 ![0, 1] bcast_S1x1_S1024x1_0_1 : (⟨S1x1, .f32⟩ : BufTy).Contents (Elt F) → (⟨S1024x1, .f32⟩ : BufTy).Contents (Elt F)) (((broadcastInDim S1x1 ![1] bcast_S1_S1x1_1 : (⟨S1, .f32⟩ : BufTy).Contents (Elt F) → (⟨S1x1, .f32⟩ : BufTy).Contents (Elt F)) x_arg19) : Ct F ⟨S1x1, .f32⟩)) : Ct F ⟨S1024x1, .f32⟩)) : Ct F ⟨S1024x1, .f32⟩)

/-- The references those operations write. -/
abbrev wrH : List (Ref sig .tc) := [main_v63, main_v64, main_v65, main_v66, main_v67]

theorem opsH_keep {r : Ref sig .tc} (hr : r ∉ wrH) (V : Valuation τ sig (Elt F)) :
    StableHlo.after opsH V (Proc.devRef .tc r) = V (Proc.devRef .tc r) :=
  StableHlo.after_unwritten wrH rfl hr V

theorem opsH_val (V : Valuation τ sig (Elt F)) :
    StableHlo.after opsH V (Proc.devRef .tc main_v67) = vaT (V (Proc.devRef .tc main_arg18)) (V (Proc.devRef .tc main_v16)) (V (Proc.devRef .tc main_arg19)) := by
  after_reads_simp
  rfl

/-- The operations computing the next position. -/
abbrev opsI : List (HloOp τ sig (Elt F)) :=
  [ StableHlo.unary main_v62 main_v68 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v68 main_v49 main_v69 (mulf : (⟨S1024x1024, .f32⟩ : BufTy).Contents (Elt F) → (⟨S1024x1024, .f32⟩ : BufTy).Contents (Elt F) → (⟨S1024x1024, .f32⟩ : BufTy).Contents (Elt F)),
    StableHlo.binary main_v16 main_v69 main_v70 (addf : (⟨S1024x1024, .f32⟩ : BufTy).Contents (Elt F) → (⟨S1024x1024, .f32⟩ : BufTy).Contents (Elt F) → (⟨S1024x1024, .f32⟩ : BufTy).Contents (Elt F)) ]

/-- The next position, of what the operations read. -/
def npT (x_v62 : Ct F ⟨S1024x1, .f32⟩) (x_v49 : Ct F ⟨S1024x1024, .f32⟩) (x_v16 : Ct F ⟨S1024x1024, .f32⟩) : Ct F ⟨S1024x1024, .f32⟩ :=
  (((addf : (⟨S1024x1024, .f32⟩ : BufTy).Contents (Elt F) → (⟨S1024x1024, .f32⟩ : BufTy).Contents (Elt F) → (⟨S1024x1024, .f32⟩ : BufTy).Contents (Elt F)) x_v16 (((mulf : (⟨S1024x1024, .f32⟩ : BufTy).Contents (Elt F) → (⟨S1024x1024, .f32⟩ : BufTy).Contents (Elt F) → (⟨S1024x1024, .f32⟩ : BufTy).Contents (Elt F)) (((broadcastInDim S1024x1024 ![0, 1] bcast_S1024x1_S1024x1024_0_1 : (⟨S1024x1, .f32⟩ : BufTy).Contents (Elt F) → (⟨S1024x1024, .f32⟩ : BufTy).Contents (Elt F)) x_v62) : Ct F ⟨S1024x1024, .f32⟩) x_v49) : Ct F ⟨S1024x1024, .f32⟩)) : Ct F ⟨S1024x1024, .f32⟩)

/-- The references those operations write. -/
abbrev wrI : List (Ref sig .tc) := [main_v68, main_v69, main_v70]

theorem opsI_keep {r : Ref sig .tc} (hr : r ∉ wrI) (V : Valuation τ sig (Elt F)) :
    StableHlo.after opsI V (Proc.devRef .tc r) = V (Proc.devRef .tc r) :=
  StableHlo.after_unwritten wrI rfl hr V

theorem opsI_val (V : Valuation τ sig (Elt F)) :
    StableHlo.after opsI V (Proc.devRef .tc main_v70) = npT (V (Proc.devRef .tc main_v62)) (V (Proc.devRef .tc main_v49)) (V (Proc.devRef .tc main_v16)) := by
  after_reads_simp
  rfl

/-- The operations computing the latent. -/
abbrev opsJ : List (HloOp τ sig (Elt F)) :=
  [ StableHlo.unary main_arg6 main_v71 ((transpose S1024x1024 [1, 0] · transposes_S1024x1024_S1024x1024_1_0) : (⟨S1024x1024, .f32⟩ : BufTy).Contents (Elt F) → (⟨S1024x1024, .f32⟩ : BufTy).Contents (Elt F)),
    StableHlo.binary main_v70 main_v71 main_v72 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    StableHlo.unary main_arg7 main_v73 (broadcastInDim S1x1024 ![1] bcast_S1024_S1x1024_1 : (⟨S1024, .f32⟩ : BufTy).Contents (Elt F) → (⟨S1x1024, .f32⟩ : BufTy).Contents (Elt F)),
    StableHlo.unary main_v73 main_v74 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v72 main_v74 main_v75 (addf : (⟨S1024x1024, .f32⟩ : BufTy).Contents (Elt F) → (⟨S1024x1024, .f32⟩ : BufTy).Contents (Elt F) → (⟨S1024x1024, .f32⟩ : BufTy).Contents (Elt F)),
    StableHlo.nullary main_call4_cst (constant S_ .f32 0x00000000#32),
    StableHlo.unary main_call4_cst main_call4_v0 (broadcastInDim S1024x1024 ![] bcast_S_S1024x1024),
    StableHlo.binary main_v75 main_call4_v0 main_v76 maximumf,
    StableHlo.unary main_arg8 main_v77 ((transpose S1024x4096 [1, 0] · transposes_S4096x1024_S1024x4096_1_0) : (⟨S4096x1024, .f32⟩ : BufTy).Contents (Elt F) → (⟨S1024x4096, .f32⟩ : BufTy).Contents (Elt F)),
    StableHlo.binary main_v76 main_v77 main_v78 ((fun l r => Host.dotGeneral dot_S1024x1024_S1024x4096_S1024x4096_1_0_0_1_n_n none l r) : (⟨S1024x1024, .f32⟩ : BufTy).Contents (Elt F) → (⟨S1024x4096, .f32⟩ : BufTy).Contents (Elt F) → (⟨S1024x4096, .f32⟩ : BufTy).Contents (Elt F)),
    StableHlo.unary main_arg9 main_v79 (broadcastInDim S1x4096 ![1] bcast_S4096_S1x4096_1 : (⟨S4096, .f32⟩ : BufTy).Contents (Elt F) → (⟨S1x4096, .f32⟩ : BufTy).Contents (Elt F)),
    StableHlo.unary main_v79 main_v80 (broadcastInDim S1024x4096 ![0, 1] bcast_S1x4096_S1024x4096_0_1 : (⟨S1x4096, .f32⟩ : BufTy).Contents (Elt F) → (⟨S1024x4096, .f32⟩ : BufTy).Contents (Elt F)),
    StableHlo.binary main_v78 main_v80 main_v81 (addf : (⟨S1024x4096, .f32⟩ : BufTy).Contents (Elt F) → (⟨S1024x4096, .f32⟩ : BufTy).Contents (Elt F) → (⟨S1024x4096, .f32⟩ : BufTy).Contents (Elt F)) ]

/-- The latent, of what the operations read. -/
def laT (x_arg6 : Ct F ⟨S1024x1024, .f32⟩) (x_v70 : Ct F ⟨S1024x1024, .f32⟩) (x_arg7 : Ct F ⟨S1024, .f32⟩) (x_arg8 : Ct F ⟨S4096x1024, .f32⟩) (x_arg9 : Ct F ⟨S4096, .f32⟩) : Ct F ⟨S1024x4096, .f32⟩ :=
  (((addf : (⟨S1024x4096, .f32⟩ : BufTy).Contents (Elt F) → (⟨S1024x4096, .f32⟩ : BufTy).Contents (Elt F) → (⟨S1024x4096, .f32⟩ : BufTy).Contents (Elt F)) ((((fun l r => Host.dotGeneral dot_S1024x1024_S1024x4096_S1024x4096_1_0_0_1_n_n none l r) : (⟨S1024x1024, .f32⟩ : BufTy).Contents (Elt F) → (⟨S1024x4096, .f32⟩ : BufTy).Contents (Elt F) → (⟨S1024x4096, .f32⟩ : BufTy).Contents (Elt F)) ((maximumf (((addf : (⟨S1024x1024, .f32⟩ : BufTy).Contents (Elt F) → (⟨S1024x1024, .f32⟩ : BufTy).Contents (Elt F) → (⟨S1024x1024, .f32⟩ : BufTy).Contents (Elt F)) ((((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)) x_v70 ((((transpose S1024x1024 [1, 0] · transposes_S1024x1024_S1024x1024_1_0) : (⟨S1024x1024, .f32⟩ : BufTy).Contents (Elt F) → (⟨S1024x1024, .f32⟩ : BufTy).Contents (Elt F)) x_arg6) : Ct F ⟨S1024x1024, .f32⟩)) : Ct F ⟨S1024x1024, .f32⟩) (((broadcastInDim S1024x1024 ![0, 1] bcast_S1x1024_S1024x1024_0_1 : (⟨S1x1024, .f32⟩ : BufTy).Contents (Elt F) → (⟨S1024x1024, .f32⟩ : BufTy).Contents (Elt F)) (((broadcastInDim S1x1024 ![1] bcast_S1024_S1x1024_1 : (⟨S1024, .f32⟩ : BufTy).Contents (Elt F) → (⟨S1x1024, .f32⟩ : BufTy).Contents (Elt F)) x_arg7) : Ct F ⟨S1x1024, .f32⟩)) : Ct F ⟨S1024x1024, .f32⟩)) : Ct F ⟨S1024x1024, .f32⟩) (((broadcastInDim S1024x1024 ![] bcast_S_S1024x1024) ((constant S_ .f32 0x00000000#32) : Ct F ⟨S_, .f32⟩)) : Ct F ⟨S1024x1024, .f32⟩)) : Ct F ⟨S1024x1024, .f32⟩) ((((transpose S1024x4096 [1, 0] · transposes_S4096x1024_S1024x4096_1_0) : (⟨S4096x1024, .f32⟩ : BufTy).Contents (Elt F) → (⟨S1024x4096, .f32⟩ : BufTy).Contents (Elt F)) x_arg8) : Ct F ⟨S1024x4096, .f32⟩)) : Ct F ⟨S1024x4096, .f32⟩) (((broadcastInDim S1024x4096 ![0, 1] bcast_S1x4096_S1024x4096_0_1 : (⟨S1x4096, .f32⟩ : BufTy).Contents (Elt F) → (⟨S1024x4096, .f32⟩ : BufTy).Contents (Elt F)) (((broadcastInDim S1x4096 ![1] bcast_S4096_S1x4096_1 : (⟨S4096, .f32⟩ : BufTy).Contents (Elt F) → (⟨S1x4096, .f32⟩ : BufTy).Contents (Elt F)) x_arg9) : Ct F ⟨S1x4096, .f32⟩)) : Ct F ⟨S1024x4096, .f32⟩)) : Ct F ⟨S1024x4096, .f32⟩)

/-- The references those operations write. -/
abbrev wrJ : List (Ref sig .tc) := [main_v71, main_v72, main_v73, main_v74, main_v75, main_call4_cst, main_call4_v0, main_v76, main_v77, main_v78, main_v79, main_v80, main_v81]

theorem opsJ_keep {r : Ref sig .tc} (hr : r ∉ wrJ) (V : Valuation τ sig (Elt F)) :
    StableHlo.after opsJ V (Proc.devRef .tc r) = V (Proc.devRef .tc r) :=
  StableHlo.after_unwritten wrJ rfl hr V

theorem opsJ_val (V : Valuation τ sig (Elt F)) :
    StableHlo.after opsJ V (Proc.devRef .tc main_v81) = laT (V (Proc.devRef .tc main_arg6)) (V (Proc.devRef .tc main_v70)) (V (Proc.devRef .tc main_arg7)) (V (Proc.devRef .tc main_arg8)) (V (Proc.devRef .tc main_arg9)) := by
  after_reads_simp
  rfl

/-- The operations computing the log probability of the chosen action. -/
abbrev opsK : List (HloOp τ sig (Elt F)) :=
  [ StableHlo.unary main_v39 main_v82 (broadcastInDim S1024x1 ![0] bcast_S1024_S1024x1_0 : (⟨S1024, .i32⟩ : BufTy).Contents (Elt F) → (⟨S1024x1, .i32⟩ : BufTy).Contents (Elt F)),
    StableHlo.nullary main_call5_c (constantI S_ 32 0#32),
    StableHlo.unary main_call5_c main_call5_v0 (broadcastInDim S1024x1 ![] bcast_S_S1024x1),
    StableHlo.binary main_v82 main_call5_v0 main_call5_v1 (cmpi .slt),
    StableHlo.nullary main_call5_c_0 (constantI S_ 32 2#32),
    StableHlo.unary main_call5_c_0 main_call5_v2 (broadcastInDim S1024x1 ![] bcast_S_S1024x1),
    StableHlo.binary main_v82 main_call5_v2 main_call5_v3 addi,
    StableHlo.ternary main_call5_v1 main_call5_v3 main_v82 main_call5_v4 select,
    StableHlo.reshape main_call5_v4 main_call5_v5 (rfl : (.i32 : EltTy) = .i32) shapeCasts_S1024x1_S1024x1x1,
    StableHlo.nullary main_call5_c_1 (constantI S1 32 1#32),
    StableHlo.nullary main_call5_c_2 (constantI S_ 32 0#32),
    StableHlo.unary main_call5_c_2 main_call5_v6 (broadcastInDim S1024x1x1 ![] bcast_S_S1024x1x1),
    StableHlo.binary main_call5_v5 main_call5_v6 main_call5_v7 (cmpi .sge),
    StableHlo.unary main_call5_c_1 main_call5_v8 (broadcastInDim S1x1x1 ![2] bcast_S1_S1x1x1_2),
    StableHlo.unary main_call5_v8 main_call5_v9 (broadcastInDim S1024x1x1 ![0, 1, 2] bcast_S1x1x1_S1024x1x1_0_1_2),
    StableHlo.binary main_call5_v5 main_call5_v9 main_call5_v10 (cmpi .sle),
    StableHlo.binary main_call5_v7 main_call5_v10 main_call5_v11 andi,
    StableHlo.nullary main_call5_c_3 (constantI S_ 1 1#1),
    StableHlo.binary main_call5_v11 main_call5_c_3 main_call5_v12 (fun x v => Host.reduce IntOp.andi x v reducesTo_S1024x1x1_S1024x1_d2 h_S_),
    StableHlo.binary main_v38 main_call5_v5 main_call5_v13 (fun x i => Host.gather gather_S1024x2_S1024x1x1_S1024x1_n_1_0_0_1_2_11 x i),
    StableHlo.nullary main_call5_cst (constant S_ .f32 0x7FC00000#32),
    StableHlo.unary main_call5_cst main_call5_v14 (broadcastInDim S1024x1 ![] bcast_S_S1024x1),
    StableHlo.ternary main_call5_v12 main_call5_v13 main_call5_v14 main_v83 select,
    StableHlo.reshape main_v83 main_v84 (rfl : (.f32 : EltTy) = .f32) shapeCasts_S1024x1_S1024,
    StableHlo.unary main_v84 main_v85 (Host.log : (⟨S1024, .f32⟩ : BufTy).Contents (Elt F) → (⟨S1024, .f32⟩ : BufTy).Contents (Elt F)) ]

/-- The log probability of the chosen action, of what the operations read. -/
def lpT (x_v39 : Ct F ⟨S1024, .i32⟩) (x_v38 : Ct F ⟨S1024x2, .f32⟩) : Ct F ⟨S1024, .f32⟩ :=
  (((Host.log : (⟨S1024, .f32⟩ : BufTy).Contents (Elt F) → (⟨S1024, .f32⟩ : BufTy).Contents (Elt F)) ((shapeCast S1024 ((select (((fun x v => Host.reduce IntOp.andi x v reducesTo_S1024x1x1_S1024x1_d2 h_S_) ((andi (((cmpi .sge) ((shapeCast S1024x1x1 ((select (((cmpi .slt) (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩) (((broadcastInDim S1024x1 ![] bcast_S_S1024x1) ((constantI S_ 32 0#32) : Ct F ⟨S_, .i32⟩)) : Ct F ⟨S1024x1, .i32⟩)) : Ct F ⟨S1024x1, .i1⟩) ((addi (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩) (((broadcastInDim S1024x1 ![] bcast_S_S1024x1) ((constantI S_ 32 2#32) : Ct F ⟨S_, .i32⟩)) : Ct F ⟨S1024x1, .i32⟩)) : Ct F ⟨S1024x1, .i32⟩) (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩)) : Ct F ⟨S1024x1, .i32⟩) shapeCasts_S1024x1_S1024x1x1) : Ct F ⟨S1024x1x1, .i32⟩) (((broadcastInDim S1024x1x1 ![] bcast_S_S1024x1x1) ((constantI S_ 32 0#32) : Ct F ⟨S_, .i32⟩)) : Ct F ⟨S1024x1x1, .i32⟩)) : Ct F ⟨S1024x1x1, .i1⟩) (((cmpi .sle) ((shapeCast S1024x1x1 ((select (((cmpi .slt) (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩) (((broadcastInDim S1024x1 ![] bcast_S_S1024x1) ((constantI S_ 32 0#32) : Ct F ⟨S_, .i32⟩)) : Ct F ⟨S1024x1, .i32⟩)) : Ct F ⟨S1024x1, .i1⟩) ((addi (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩) (((broadcastInDim S1024x1 ![] bcast_S_S1024x1) ((constantI S_ 32 2#32) : Ct F ⟨S_, .i32⟩)) : Ct F ⟨S1024x1, .i32⟩)) : Ct F ⟨S1024x1, .i32⟩) (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩)) : Ct F ⟨S1024x1, .i32⟩) shapeCasts_S1024x1_S1024x1x1) : Ct F ⟨S1024x1x1, .i32⟩) (((broadcastInDim S1024x1x1 ![0, 1, 2] bcast_S1x1x1_S1024x1x1_0_1_2) (((broadcastInDim S1x1x1 ![2] bcast_S1_S1x1x1_2) ((constantI S1 32 1#32) : Ct F ⟨S1, .i32⟩)) : Ct F ⟨S1x1x1, .i32⟩)) : Ct F ⟨S1024x1x1, .i32⟩)) : Ct F ⟨S1024x1x1, .i1⟩)) : Ct F ⟨S1024x1x1, .i1⟩) ((constantI S_ 1 1#1) : Ct F ⟨S_, .i1⟩)) : Ct F ⟨S1024x1, .i1⟩) (((fun x i => Host.gather gather_S1024x2_S1024x1x1_S1024x1_n_1_0_0_1_2_11 x i) x_v38 ((shapeCast S1024x1x1 ((select (((cmpi .slt) (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩) (((broadcastInDim S1024x1 ![] bcast_S_S1024x1) ((constantI S_ 32 0#32) : Ct F ⟨S_, .i32⟩)) : Ct F ⟨S1024x1, .i32⟩)) : Ct F ⟨S1024x1, .i1⟩) ((addi (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩) (((broadcastInDim S1024x1 ![] bcast_S_S1024x1) ((constantI S_ 32 2#32) : Ct F ⟨S_, .i32⟩)) : Ct F ⟨S1024x1, .i32⟩)) : Ct F ⟨S1024x1, .i32⟩) (((broadcastInDim S1024x1 ![0] bcast_S1024_S1024x1_0 : (⟨S1024, .i32⟩ : BufTy).Contents (Elt F) → (⟨S1024x1, .i32⟩ : BufTy).Contents (Elt F)) x_v39) : Ct F ⟨S1024x1, .i32⟩)) : Ct F ⟨S1024x1, .i32⟩) shapeCasts_S1024x1_S1024x1x1) : Ct F ⟨S1024x1x1, .i32⟩)) : Ct F ⟨S1024x1, .f32⟩) (((broadcastInDim S1024x1 ![] bcast_S_S1024x1) ((constant S_ .f32 0x7FC00000#32) : Ct F ⟨S_, .f32⟩)) : Ct F ⟨S1024x1, .f32⟩)) : Ct F ⟨S1024x1, .f32⟩) shapeCasts_S1024x1_S1024) : Ct F ⟨S1024, .f32⟩)) : Ct F ⟨S1024, .f32⟩)

/-- The references those operations write. -/
abbrev wrK : List (Ref sig .tc) := [main_v82, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v83, main_v84, main_v85]

theorem opsK_keep {r : Ref sig .tc} (hr : r ∉ wrK) (V : Valuation τ sig (Elt F)) :
    StableHlo.after opsK V (Proc.devRef .tc r) = V (Proc.devRef .tc r) :=
  StableHlo.after_unwritten wrK rfl hr V

theorem opsK_val (V : Valuation τ sig (Elt F)) :
    StableHlo.after opsK V (Proc.devRef .tc main_v85) = lpT (V (Proc.devRef .tc main_v39)) (V (Proc.devRef .tc main_v38)) := by
  after_reads_simp
  rfl

/-- The operations computing the entropy. -/
abbrev opsL : List (HloOp τ sig (Elt F)) :=
  [ StableHlo.nullary main_cst_8 (constant S_ .f32 0x322BCC77#32),
    StableHlo.unary main_cst_8 main_v86 (broadcastInDim S1024x2 ![] bcast_S_S1024x2 : (⟨S_, .f32⟩ : BufTy).Contents (Elt F) → (⟨S1024x2, .f32⟩ : BufTy).Contents (Elt F)),
    StableHlo.binary main_v38 main_v86 main_v87 (addf : (⟨S1024x2, .f32⟩ : BufTy).Contents (Elt F) → (⟨S1024x2, .f32⟩ : BufTy).Contents (Elt F) → (⟨S1024x2, .f32⟩ : BufTy).Contents (Elt F)),
    StableHlo.unary main_v87 main_v88 (Host.log : (⟨S1024x2, .f32⟩ : BufTy).Contents (Elt F) → (⟨S1024x2, .f32⟩ : BufTy).Contents (Elt F)),
    StableHlo.binary main_v38 main_v88 main_v89 (mulf : (⟨S1024x2, .f32⟩ : BufTy).Contents (Elt F) → (⟨S1024x2, .f32⟩ : BufTy).Contents (Elt F) → (⟨S1024x2, .f32⟩ : BufTy).Contents (Elt F)),
    StableHlo.nullary main_cst_9 (constant S_ .f32 0x00000000#32),
    StableHlo.binary main_v89 main_cst_9 main_v90 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    StableHlo.unary main_v90 main_v91 (Host.negf : (⟨S1024, .f32⟩ : BufTy).Contents (Elt F) → (⟨S1024, .f32⟩ : BufTy).Contents (Elt F)) ]

/-- The entropy, of what the operations read. -/
def enT (x_v38 : Ct F ⟨S1024x2, .f32⟩) : Ct F ⟨S1024, .f32⟩ :=
  (((Host.negf : (⟨S1024, .f32⟩ : BufTy).Contents (Elt F) → (⟨S1024, .f32⟩ : BufTy).Contents (Elt F)) ((((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)) (((mulf : (⟨S1024x2, .f32⟩ : BufTy).Contents (Elt F) → (⟨S1024x2, .f32⟩ : BufTy).Contents (Elt F) → (⟨S1024x2, .f32⟩ : BufTy).Contents (Elt F)) x_v38 (((Host.log : (⟨S1024x2, .f32⟩ : BufTy).Contents (Elt F) → (⟨S1024x2, .f32⟩ : BufTy).Contents (Elt F)) (((addf : (⟨S1024x2, .f32⟩ : BufTy).Contents (Elt F) → (⟨S1024x2, .f32⟩ : BufTy).Contents (Elt F) → (⟨S1024x2, .f32⟩ : BufTy).Contents (Elt F)) x_v38 (((broadcastInDim S1024x2 ![] bcast_S_S1024x2 : (⟨S_, .f32⟩ : BufTy).Contents (Elt F) → (⟨S1024x2, .f32⟩ : BufTy).Contents (Elt F)) ((constant S_ .f32 0x322BCC77#32) : Ct F ⟨S_, .f32⟩)) : Ct F ⟨S1024x2, .f32⟩)) : Ct F ⟨S1024x2, .f32⟩)) : Ct F ⟨S1024x2, .f32⟩)) : Ct F ⟨S1024x2, .f32⟩) ((constant S_ .f32 0x00000000#32) : Ct F ⟨S_, .f32⟩)) : Ct F ⟨S1024, .f32⟩)) : Ct F ⟨S1024, .f32⟩)

/-- The references those operations write. -/
abbrev wrL : List (Ref sig .tc) := [main_cst_8, main_v86, main_v87, main_v88, main_v89, main_cst_9, main_v90, main_v91]

theorem opsL_keep {r : Ref sig .tc} (hr : r ∉ wrL) (V : Valuation τ sig (Elt F)) :
    StableHlo.after opsL V (Proc.devRef .tc r) = V (Proc.devRef .tc r) :=
  StableHlo.after_unwritten wrL rfl hr V

theorem opsL_val (V : Valuation τ sig (Elt F)) :
    StableHlo.after opsL V (Proc.devRef .tc main_v91) = enT (V (Proc.devRef .tc main_v38)) := by
  after_reads_simp
  rfl

/-- The operations computing the first probability. -/
abbrev opsM : List (HloOp τ sig (Elt F)) :=
  [ StableHlo.unary main_v38 main_v92 ((extractStridedSlice S1024x1 ![0, 0] · slices_S1024x2_S1024x1_0_0) : (⟨S1024x2, .f32⟩ : BufTy).Contents (Elt F) → (⟨S1024x1, .f32⟩ : BufTy).Contents (Elt F)),
    StableHlo.reshape main_v92 main_v93 (rfl : (.f32 : EltTy) = .f32) shapeCasts_S1024x1_S1024 ]

/-- The first probability, of what the operations read. -/
def p0T (x_v38 : Ct F ⟨S1024x2, .f32⟩) : Ct F ⟨S1024, .f32⟩ :=
  ((shapeCast S1024 ((((extractStridedSlice S1024x1 ![0, 0] · slices_S1024x2_S1024x1_0_0) : (⟨S1024x2, .f32⟩ : BufTy).Contents (Elt F) → (⟨S1024x1, .f32⟩ : BufTy).Contents (Elt F)) x_v38) : Ct F ⟨S1024x1, .f32⟩) shapeCasts_S1024x1_S1024) : Ct F ⟨S1024, .f32⟩)

/-- The references those operations write. -/
abbrev wrM : List (Ref sig .tc) := [main_v92, main_v93]

theorem opsM_keep {r : Ref sig .tc} (hr : r ∉ wrM) (V : Valuation τ sig (Elt F)) :
    StableHlo.after opsM V (Proc.devRef .tc r) = V (Proc.devRef .tc r) :=
  StableHlo.after_unwritten wrM rfl hr V

theorem opsM_val (V : Valuation τ sig (Elt F)) :
    StableHlo.after opsM V (Proc.devRef .tc main_v93) = p0T (V (Proc.devRef .tc main_v38)) := by
  after_reads_simp
  rfl

/-- The operations computing the value as a column. -/
abbrev opsN : List (HloOp τ sig (Elt F)) :=
  [ StableHlo.reshape main_v67 main_v94 (rfl : (.f32 : EltTy) = .f32) shapeCasts_S1024x1_S1024 ]

/-- The value as a column, of what the operations read. -/
def v0T (x_v67 : Ct F ⟨S1024x1, .f32⟩) : Ct F ⟨S1024, .f32⟩ :=
  ((shapeCast S1024 x_v67 shapeCasts_S1024x1_S1024) : Ct F ⟨S1024, .f32⟩)

/-- The references those operations write. -/
abbrev wrN : List (Ref sig .tc) := [main_v94]

theorem opsN_keep {r : Ref sig .tc} (hr : r ∉ wrN) (V : Valuation τ sig (Elt F)) :
    StableHlo.after opsN V (Proc.devRef .tc r) = V (Proc.devRef .tc r) :=
  StableHlo.after_unwritten wrN rfl hr V

theorem opsN_val (V : Valuation τ sig (Elt F)) :
    StableHlo.after opsN V (Proc.devRef .tc main_v94) = v0T (V (Proc.devRef .tc main_v67)) := by
  after_reads_simp
  rfl

/-- All operations, in order. -/
abbrev ops : List (HloOp τ sig (Elt F)) :=
  opsA ++ (opsB ++ (opsC ++ (opsD ++ (opsE ++ (opsF ++ (opsG ++ (opsH ++ (opsI ++ (opsJ ++ (opsK ++ (opsL ++ (opsM ++ (opsN)))))))))))))

/-- @main is that straight line. -/
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.reshape_bufs_sub .., StableHlo.reshape_bufs_sub ..⟩

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The contents after the windows up to A. -/
def UA (V : Valuation τ sig (Elt F)) : Valuation τ sig (Elt F) := StableHlo.after opsA V
/-- The contents after the windows up to B. -/
def UB (V : Valuation τ sig (Elt F)) : Valuation τ sig (Elt F) := StableHlo.after opsB (UA V)
/-- The contents after the windows up to C. -/
def UC (V : Valuation τ sig (Elt F)) : Valuation τ sig (Elt F) := StableHlo.after opsC (UB V)
/-- The contents after the windows up to D. -/
def UD (V : Valuation τ sig (Elt F)) : Valuation τ sig (Elt F) := StableHlo.after opsD (UC V)
/-- The contents after the windows up to E. -/
def UE (V : Valuation τ sig (Elt F)) : Valuation τ sig (Elt F) := StableHlo.after opsE (UD V)
/-- The contents after the windows up to F. -/
def UF (V : Valuation τ sig (Elt F)) : Valuation τ sig (Elt F) := StableHlo.after opsF (UE V)
/-- The contents after the windows up to G. -/
def UG (V : Valuation τ sig (Elt F)) : Valuation τ sig (Elt F) := StableHlo.after opsG (UF V)
/-- The contents after the windows up to H. -/
def UH (V : Valuation τ sig (Elt F)) : Valuation τ sig (Elt F) := StableHlo.after opsH (UG V)
/-- The contents after the windows up to I. -/
def UI (V : Valuation τ sig (Elt F)) : Valuation τ sig (Elt F) := StableHlo.after opsI (UH V)
/-- The contents after the windows up to J. -/
def UJ (V : Valuation τ sig (Elt F)) : Valuation τ sig (Elt F) := StableHlo.after opsJ (UI V)
/-- The contents after the windows up to K. -/
def UK (V : Valuation τ sig (Elt F)) : Valuation τ sig (Elt F) := StableHlo.after opsK (UJ V)
/-- The contents after the windows up to L. -/
def UL (V : Valuation τ sig (Elt F)) : Valuation τ sig (Elt F) := StableHlo.after opsL (UK V)
/-- The contents after the windows up to M. -/
def UM (V : Valuation τ sig (Elt F)) : Valuation τ sig (Elt F) := StableHlo.after opsM (UL V)
/-- The contents after the windows up to N. -/
def UN (V : Valuation τ sig (Elt F)) : Valuation τ sig (Elt F) := StableHlo.after opsN (UM V)

theorem after_ops (V : Valuation τ sig (Elt F)) : StableHlo.after ops V = UN V := by
  simp only [ops, after_append]
  rfl

/-- The argument arrays of one device, together. -/
structure Args (F : FTy → Type) where
  a0 : Ct F ⟨S1024x4096, .f32⟩
  a1 : Ct F ⟨S_, .i32⟩
  a2 : Ct F ⟨S1024x4096, .f32⟩
  a3 : Ct F ⟨S1024, .f32⟩
  a4 : Ct F ⟨S1024x1024, .f32⟩
  a5 : Ct F ⟨S1024, .f32⟩
  a6 : Ct F ⟨S1024x1024, .f32⟩
  a7 : Ct F ⟨S1024, .f32⟩
  a8 : Ct F ⟨S4096x1024, .f32⟩
  a9 : Ct F ⟨S4096, .f32⟩
  a10 : Ct F ⟨S512x1024, .f32⟩
  a11 : Ct F ⟨S512, .f32⟩
  a12 : Ct F ⟨S2x512, .f32⟩
  a13 : Ct F ⟨S2, .f32⟩
  a14 : Ct F ⟨S1024x1024, .f32⟩
  a15 : Ct F ⟨S1024, .f32⟩
  a16 : Ct F ⟨S1x1024, .f32⟩
  a17 : Ct F ⟨S1, .f32⟩
  a18 : Ct F ⟨S1x1024, .f32⟩
  a19 : Ct F ⟨S1, .f32⟩

/-- The arguments a valuation holds. -/
def args (V : Valuation τ sig (Elt F)) : Args F where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)

/-- The hidden state plus shift, of the arguments. -/
def rrs (A : Args F) : Ct F ⟨S1024x1024, .f32⟩ := rsT A.a2 A.a0 A.a3 A.a4 A.a5 A.a1

/-- The two logits, of the arguments. -/
def rlog (A : Args F) : Ct F ⟨S1024x2, .f32⟩ := logT A.a10 (rrs A) A.a11 A.a12 A.a13

/-- The softmax of the logits, of the arguments. -/
def rpr (A : Args F) : Ct F ⟨S1024x2, .f32⟩ := prT (rlog A)

/-- The chosen action, of the arguments. -/
def ram (A : Args F) : Ct F ⟨S1024, .i32⟩ := amT (rpr A)

/-- The raw direction, of the arguments. -/
def rdr (A : Args F) : Ct F ⟨S1024x1024, .f32⟩ := drT A.a14 (rrs A) A.a15

/-- The direction over its norm, of the arguments. -/
def rdir (A : Args F) : Ct F ⟨S1024x1024, .f32⟩ := dirT (rdr A)

/-- The step size, of the arguments. -/
def rst (A : Args F) : Ct F ⟨S1024x1, .f32⟩ := stT A.a16 (rrs A) A.a17

/-- The value head, of the arguments. -/
def rva (A : Args F) : Ct F ⟨S1024x1, .f32⟩ := vaT A.a18 (rrs A) A.a19

/-- The next position, of the arguments. -/
def rnp (A : Args F) : Ct F ⟨S1024x1024, .f32⟩ := npT (rst A) (rdir A) (rrs A)

/-- The latent, of the arguments. -/
def rla (A : Args F) : Ct F ⟨S1024x4096, .f32⟩ := laT A.a6 (rnp A) A.a7 A.a8 A.a9

/-- The log probability of the chosen action, of the arguments. -/
def rlp (A : Args F) : Ct F ⟨S1024, .f32⟩ := lpT (ram A) (rpr A)

/-- The entropy, of the arguments. -/
def ren (A : Args F) : Ct F ⟨S1024, .f32⟩ := enT (rpr A)

/-- The first probability, of the arguments. -/
def rp0 (A : Args F) : Ct F ⟨S1024, .f32⟩ := p0T (rpr A)

/-- The value as a column, of the arguments. -/
def rv0 (A : Args F) : Ct F ⟨S1024, .f32⟩ := v0T (rva A)

/-- The argument references. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem UA_arg {r : Ref sig .tc} (h : r ∈ argRefs) (V : Valuation τ sig (Elt F)) : UA V (Proc.devRef .tc r) = V (Proc.devRef .tc r) :=
  (opsA_keep ((by decide : ∀ r ∈ argRefs, r ∉ wrA) r h) V)
theorem UA_rrs (V : Valuation τ sig (Elt F)) : UA V (Proc.devRef .tc main_v16) = rrs (args V) := by
  refine (opsA_val V).trans ?_
  rfl
theorem UB_arg {r : Ref sig .tc} (h : r ∈ argRefs) (V : Valuation τ sig (Elt F)) : UB V (Proc.devRef .tc r) = V (Proc.devRef .tc r) :=
  (opsB_keep ((by decide : ∀ r ∈ argRefs, r ∉ wrB) r h) (UA V)).trans (UA_arg h V)
theorem UB_rrs (V : Valuation τ sig (Elt F)) : UB V (Proc.devRef .tc main_v16) = rrs (args V) :=
  (opsB_keep (by decide) (UA V)).trans (UA_rrs V)
theorem UB_rlog (V : Valuation τ sig (Elt F)) : UB V (Proc.devRef .tc main_v27) = rlog (args V) := by
  refine (opsB_val (UA V)).trans ?_
  rw [UA_arg (r := main_arg10) (by decide), UA_rrs, UA_arg (r := main_arg11) (by decide), UA_arg (r := main_arg12) (by decide), UA_arg (r := main_arg13) (by decide)]
  rfl
theorem UC_arg {r : Ref sig .tc} (h : r ∈ argRefs) (V : Valuation τ sig (Elt F)) : UC V (Proc.devRef .tc r) = V (Proc.devRef .tc r) :=
  (opsC_keep ((by decide : ∀ r ∈ argRefs, r ∉ wrC) r h) (UB V)).trans (UB_arg h V)
theorem UC_rrs (V : Valuation τ sig (Elt F)) : UC V (Proc.devRef .tc main_v16) = rrs (args V) :=
  (opsC_keep (by decide) (UB V)).trans (UB_rrs V)
theorem UC_rlog (V : Valuation τ sig (Elt F)) : UC V (Proc.devRef .tc main_v27) = rlog (args V) :=
  (opsC_keep (by decide) (UB V)).trans (UB_rlog V)
theorem UC_rpr (V : Valuation τ sig (Elt F)) : UC V (Proc.devRef .tc main_v38) = rpr (args V) := by
  refine (opsC_val (UB V)).trans ?_
  rw [UB_rlog]
  rfl
theorem UD_arg {r : Ref sig .tc} (h : r ∈ argRefs) (V : Valuation τ sig (Elt F)) : UD V (Proc.devRef .tc r) = V (Proc.devRef .tc r) :=
  (opsD_keep ((by decide : ∀ r ∈ argRefs, r ∉ wrD) r h) (UC V)).trans (UC_arg h V)
theorem UD_rrs (V : Valuation τ sig (Elt F)) : UD V (Proc.devRef .tc main_v16) = rrs (args V) :=
  (opsD_keep (by decide) (UC V)).trans (UC_rrs V)
theorem UD_rlog (V : Valuation τ sig (Elt F)) : UD V (Proc.devRef .tc main_v27) = rlog (args V) :=
  (opsD_keep (by decide) (UC V)).trans (UC_rlog V)
theorem UD_rpr (V : Valuation τ sig (Elt F)) : UD V (Proc.devRef .tc main_v38) = rpr (args V) :=
  (opsD_keep (by decide) (UC V)).trans (UC_rpr V)
theorem UD_ram (V : Valuation τ sig (Elt F)) : UD V (Proc.devRef .tc main_v39) = ram (args V) := by
  refine (opsD_val (UC V)).trans ?_
  rw [UC_rpr]
  rfl
theorem UE_arg {r : Ref sig .tc} (h : r ∈ argRefs) (V : Valuation τ sig (Elt F)) : UE V (Proc.devRef .tc r) = V (Proc.devRef .tc r) :=
  (opsE_keep ((by decide : ∀ r ∈ argRefs, r ∉ wrE) r h) (UD V)).trans (UD_arg h V)
theorem UE_rrs (V : Valuation τ sig (Elt F)) : UE V (Proc.devRef .tc main_v16) = rrs (args V) :=
  (opsE_keep (by decide) (UD V)).trans (UD_rrs V)
theorem UE_rlog (V : Valuation τ sig (Elt F)) : UE V (Proc.devRef .tc main_v27) = rlog (args V) :=
  (opsE_keep (by decide) (UD V)).trans (UD_rlog V)
theorem UE_rpr (V : Valuation τ sig (Elt F)) : UE V (Proc.devRef .tc main_v38) = rpr (args V) :=
  (opsE_keep (by decide) (UD V)).trans (UD_rpr V)
theorem UE_ram (V : Valuation τ sig (Elt F)) : UE V (Proc.devRef .tc main_v39) = ram (args V) :=
  (opsE_keep (by decide) (UD V)).trans (UD_ram V)
theorem UE_rdr (V : Valuation τ sig (Elt F)) : UE V (Proc.devRef .tc main_v44) = rdr (args V) := by
  refine (opsE_val (UD V)).trans ?_
  rw [UD_arg (r := main_arg14) (by decide), UD_rrs, UD_arg (r := main_arg15) (by decide)]
  rfl
theorem UF_arg {r : Ref sig .tc} (h : r ∈ argRefs) (V : Valuation τ sig (Elt F)) : UF V (Proc.devRef .tc r) = V (Proc.devRef .tc r) :=
  (opsF_keep ((by decide : ∀ r ∈ argRefs, r ∉ wrF) r h) (UE V)).trans (UE_arg h V)
theorem UF_rrs (V : Valuation τ sig (Elt F)) : UF V (Proc.devRef .tc main_v16) = rrs (args V) :=
  (opsF_keep (by decide) (UE V)).trans (UE_rrs V)
theorem UF_rlog (V : Valuation τ sig (Elt F)) : UF V (Proc.devRef .tc main_v27) = rlog (args V) :=
  (opsF_keep (by decide) (UE V)).trans (UE_rlog V)
theorem UF_rpr (V : Valuation τ sig (Elt F)) : UF V (Proc.devRef .tc main_v38) = rpr (args V) :=
  (opsF_keep (by decide) (UE V)).trans (UE_rpr V)
theorem UF_ram (V : Valuation τ sig (Elt F)) : UF V (Proc.devRef .tc main_v39) = ram (args V) :=
  (opsF_keep (by decide) (UE V)).trans (UE_ram V)
theorem UF_rdr (V : Valuation τ sig (Elt F)) : UF V (Proc.devRef .tc main_v44) = rdr (args V) :=
  (opsF_keep (by decide) (UE V)).trans (UE_rdr V)
theorem UF_rdir (V : Valuation τ sig (Elt F)) : UF V (Proc.devRef .tc main_v49) = rdir (args V) := by
  refine (opsF_val (UE V)).trans ?_
  rw [UE_rdr]
  rfl
theorem UG_arg {r : Ref sig .tc} (h : r ∈ argRefs) (V : Valuation τ sig (Elt F)) : UG V (Proc.devRef .tc r) = V (Proc.devRef .tc r) :=
  (opsG_keep ((by decide : ∀ r ∈ argRefs, r ∉ wrG) r h) (UF V)).trans (UF_arg h V)
theorem UG_rrs (V : Valuation τ sig (Elt F)) : UG V (Proc.devRef .tc main_v16) = rrs (args V) :=
  (opsG_keep (by decide) (UF V)).trans (UF_rrs V)
theorem UG_rlog (V : Valuation τ sig (Elt F)) : UG V (Proc.devRef .tc main_v27) = rlog (args V) :=
  (opsG_keep (by decide) (UF V)).trans (UF_rlog V)
theorem UG_rpr (V : Valuation τ sig (Elt F)) : UG V (Proc.devRef .tc main_v38) = rpr (args V) :=
  (opsG_keep (by decide) (UF V)).trans (UF_rpr V)
theorem UG_ram (V : Valuation τ sig (Elt F)) : UG V (Proc.devRef .tc main_v39) = ram (args V) :=
  (opsG_keep (by decide) (UF V)).trans (UF_ram V)
theorem UG_rdr (V : Valuation τ sig (Elt F)) : UG V (Proc.devRef .tc main_v44) = rdr (args V) :=
  (opsG_keep (by decide) (UF V)).trans (UF_rdr V)
theorem UG_rdir (V : Valuation τ sig (Elt F)) : UG V (Proc.devRef .tc main_v49) = rdir (args V) :=
  (opsG_keep (by decide) (UF V)).trans (UF_rdir V)
theorem UG_rst (V : Valuation τ sig (Elt F)) : UG V (Proc.devRef .tc main_v62) = rst (args V) := by
  refine (opsG_val (UF V)).trans ?_
  rw [UF_arg (r := main_arg16) (by decide), UF_rrs, UF_arg (r := main_arg17) (by decide)]
  rfl
theorem UH_arg {r : Ref sig .tc} (h : r ∈ argRefs) (V : Valuation τ sig (Elt F)) : UH V (Proc.devRef .tc r) = V (Proc.devRef .tc r) :=
  (opsH_keep ((by decide : ∀ r ∈ argRefs, r ∉ wrH) r h) (UG V)).trans (UG_arg h V)
theorem UH_rrs (V : Valuation τ sig (Elt F)) : UH V (Proc.devRef .tc main_v16) = rrs (args V) :=
  (opsH_keep (by decide) (UG V)).trans (UG_rrs V)
theorem UH_rlog (V : Valuation τ sig (Elt F)) : UH V (Proc.devRef .tc main_v27) = rlog (args V) :=
  (opsH_keep (by decide) (UG V)).trans (UG_rlog V)
theorem UH_rpr (V : Valuation τ sig (Elt F)) : UH V (Proc.devRef .tc main_v38) = rpr (args V) :=
  (opsH_keep (by decide) (UG V)).trans (UG_rpr V)
theorem UH_ram (V : Valuation τ sig (Elt F)) : UH V (Proc.devRef .tc main_v39) = ram (args V) :=
  (opsH_keep (by decide) (UG V)).trans (UG_ram V)
theorem UH_rdr (V : Valuation τ sig (Elt F)) : UH V (Proc.devRef .tc main_v44) = rdr (args V) :=
  (opsH_keep (by decide) (UG V)).trans (UG_rdr V)
theorem UH_rdir (V : Valuation τ sig (Elt F)) : UH V (Proc.devRef .tc main_v49) = rdir (args V) :=
  (opsH_keep (by decide) (UG V)).trans (UG_rdir V)
theorem UH_rst (V : Valuation τ sig (Elt F)) : UH V (Proc.devRef .tc main_v62) = rst (args V) :=
  (opsH_keep (by decide) (UG V)).trans (UG_rst V)
theorem UH_rva (V : Valuation τ sig (Elt F)) : UH V (Proc.devRef .tc main_v67) = rva (args V) := by
  refine (opsH_val (UG V)).trans ?_
  rw [UG_arg (r := main_arg18) (by decide), UG_rrs, UG_arg (r := main_arg19) (by decide)]
  rfl
theorem UI_arg {r : Ref sig .tc} (h : r ∈ argRefs) (V : Valuation τ sig (Elt F)) : UI V (Proc.devRef .tc r) = V (Proc.devRef .tc r) :=
  (opsI_keep ((by decide : ∀ r ∈ argRefs, r ∉ wrI) r h) (UH V)).trans (UH_arg h V)
theorem UI_rrs (V : Valuation τ sig (Elt F)) : UI V (Proc.devRef .tc main_v16) = rrs (args V) :=
  (opsI_keep (by decide) (UH V)).trans (UH_rrs V)
theorem UI_rlog (V : Valuation τ sig (Elt F)) : UI V (Proc.devRef .tc main_v27) = rlog (args V) :=
  (opsI_keep (by decide) (UH V)).trans (UH_rlog V)
theorem UI_rpr (V : Valuation τ sig (Elt F)) : UI V (Proc.devRef .tc main_v38) = rpr (args V) :=
  (opsI_keep (by decide) (UH V)).trans (UH_rpr V)
theorem UI_ram (V : Valuation τ sig (Elt F)) : UI V (Proc.devRef .tc main_v39) = ram (args V) :=
  (opsI_keep (by decide) (UH V)).trans (UH_ram V)
theorem UI_rdr (V : Valuation τ sig (Elt F)) : UI V (Proc.devRef .tc main_v44) = rdr (args V) :=
  (opsI_keep (by decide) (UH V)).trans (UH_rdr V)
theorem UI_rdir (V : Valuation τ sig (Elt F)) : UI V (Proc.devRef .tc main_v49) = rdir (args V) :=
  (opsI_keep (by decide) (UH V)).trans (UH_rdir V)
theorem UI_rst (V : Valuation τ sig (Elt F)) : UI V (Proc.devRef .tc main_v62) = rst (args V) :=
  (opsI_keep (by decide) (UH V)).trans (UH_rst V)
theorem UI_rva (V : Valuation τ sig (Elt F)) : UI V (Proc.devRef .tc main_v67) = rva (args V) :=
  (opsI_keep (by decide) (UH V)).trans (UH_rva V)
theorem UI_rnp (V : Valuation τ sig (Elt F)) : UI V (Proc.devRef .tc main_v70) = rnp (args V) := by
  refine (opsI_val (UH V)).trans ?_
  rw [UH_rst, UH_rdir, UH_rrs]
  rfl
theorem UJ_arg {r : Ref sig .tc} (h : r ∈ argRefs) (V : Valuation τ sig (Elt F)) : UJ V (Proc.devRef .tc r) = V (Proc.devRef .tc r) :=
  (opsJ_keep ((by decide : ∀ r ∈ argRefs, r ∉ wrJ) r h) (UI V)).trans (UI_arg h V)
theorem UJ_rrs (V : Valuation τ sig (Elt F)) : UJ V (Proc.devRef .tc main_v16) = rrs (args V) :=
  (opsJ_keep (by decide) (UI V)).trans (UI_rrs V)
theorem UJ_rlog (V : Valuation τ sig (Elt F)) : UJ V (Proc.devRef .tc main_v27) = rlog (args V) :=
  (opsJ_keep (by decide) (UI V)).trans (UI_rlog V)
theorem UJ_rpr (V : Valuation τ sig (Elt F)) : UJ V (Proc.devRef .tc main_v38) = rpr (args V) :=
  (opsJ_keep (by decide) (UI V)).trans (UI_rpr V)
theorem UJ_ram (V : Valuation τ sig (Elt F)) : UJ V (Proc.devRef .tc main_v39) = ram (args V) :=
  (opsJ_keep (by decide) (UI V)).trans (UI_ram V)
theorem UJ_rdr (V : Valuation τ sig (Elt F)) : UJ V (Proc.devRef .tc main_v44) = rdr (args V) :=
  (opsJ_keep (by decide) (UI V)).trans (UI_rdr V)
theorem UJ_rdir (V : Valuation τ sig (Elt F)) : UJ V (Proc.devRef .tc main_v49) = rdir (args V) :=
  (opsJ_keep (by decide) (UI V)).trans (UI_rdir V)
theorem UJ_rst (V : Valuation τ sig (Elt F)) : UJ V (Proc.devRef .tc main_v62) = rst (args V) :=
  (opsJ_keep (by decide) (UI V)).trans (UI_rst V)
theorem UJ_rva (V : Valuation τ sig (Elt F)) : UJ V (Proc.devRef .tc main_v67) = rva (args V) :=
  (opsJ_keep (by decide) (UI V)).trans (UI_rva V)
theorem UJ_rnp (V : Valuation τ sig (Elt F)) : UJ V (Proc.devRef .tc main_v70) = rnp (args V) :=
  (opsJ_keep (by decide) (UI V)).trans (UI_rnp V)
theorem UJ_rla (V : Valuation τ sig (Elt F)) : UJ V (Proc.devRef .tc main_v81) = rla (args V) := by
  refine (opsJ_val (UI V)).trans ?_
  rw [UI_arg (r := main_arg6) (by decide), UI_rnp, UI_arg (r := main_arg7) (by decide), UI_arg (r := main_arg8) (by decide), UI_arg (r := main_arg9) (by decide)]
  rfl
theorem UK_arg {r : Ref sig .tc} (h : r ∈ argRefs) (V : Valuation τ sig (Elt F)) : UK V (Proc.devRef .tc r) = V (Proc.devRef .tc r) :=
  (opsK_keep ((by decide : ∀ r ∈ argRefs, r ∉ wrK) r h) (UJ V)).trans (UJ_arg h V)
theorem UK_rrs (V : Valuation τ sig (Elt F)) : UK V (Proc.devRef .tc main_v16) = rrs (args V) :=
  (opsK_keep (by decide) (UJ V)).trans (UJ_rrs V)
theorem UK_rlog (V : Valuation τ sig (Elt F)) : UK V (Proc.devRef .tc main_v27) = rlog (args V) :=
  (opsK_keep (by decide) (UJ V)).trans (UJ_rlog V)
theorem UK_rpr (V : Valuation τ sig (Elt F)) : UK V (Proc.devRef .tc main_v38) = rpr (args V) :=
  (opsK_keep (by decide) (UJ V)).trans (UJ_rpr V)
theorem UK_ram (V : Valuation τ sig (Elt F)) : UK V (Proc.devRef .tc main_v39) = ram (args V) :=
  (opsK_keep (by decide) (UJ V)).trans (UJ_ram V)
theorem UK_rdr (V : Valuation τ sig (Elt F)) : UK V (Proc.devRef .tc main_v44) = rdr (args V) :=
  (opsK_keep (by decide) (UJ V)).trans (UJ_rdr V)
theorem UK_rdir (V : Valuation τ sig (Elt F)) : UK V (Proc.devRef .tc main_v49) = rdir (args V) :=
  (opsK_keep (by decide) (UJ V)).trans (UJ_rdir V)
theorem UK_rst (V : Valuation τ sig (Elt F)) : UK V (Proc.devRef .tc main_v62) = rst (args V) :=
  (opsK_keep (by decide) (UJ V)).trans (UJ_rst V)
theorem UK_rva (V : Valuation τ sig (Elt F)) : UK V (Proc.devRef .tc main_v67) = rva (args V) :=
  (opsK_keep (by decide) (UJ V)).trans (UJ_rva V)
theorem UK_rnp (V : Valuation τ sig (Elt F)) : UK V (Proc.devRef .tc main_v70) = rnp (args V) :=
  (opsK_keep (by decide) (UJ V)).trans (UJ_rnp V)
theorem UK_rla (V : Valuation τ sig (Elt F)) : UK V (Proc.devRef .tc main_v81) = rla (args V) :=
  (opsK_keep (by decide) (UJ V)).trans (UJ_rla V)
theorem UK_rlp (V : Valuation τ sig (Elt F)) : UK V (Proc.devRef .tc main_v85) = rlp (args V) := by
  refine (opsK_val (UJ V)).trans ?_
  rw [UJ_ram, UJ_rpr]
  rfl
theorem UL_arg {r : Ref sig .tc} (h : r ∈ argRefs) (V : Valuation τ sig (Elt F)) : UL V (Proc.devRef .tc r) = V (Proc.devRef .tc r) :=
  (opsL_keep ((by decide : ∀ r ∈ argRefs, r ∉ wrL) r h) (UK V)).trans (UK_arg h V)
theorem UL_rrs (V : Valuation τ sig (Elt F)) : UL V (Proc.devRef .tc main_v16) = rrs (args V) :=
  (opsL_keep (by decide) (UK V)).trans (UK_rrs V)
theorem UL_rlog (V : Valuation τ sig (Elt F)) : UL V (Proc.devRef .tc main_v27) = rlog (args V) :=
  (opsL_keep (by decide) (UK V)).trans (UK_rlog V)
theorem UL_rpr (V : Valuation τ sig (Elt F)) : UL V (Proc.devRef .tc main_v38) = rpr (args V) :=
  (opsL_keep (by decide) (UK V)).trans (UK_rpr V)
theorem UL_ram (V : Valuation τ sig (Elt F)) : UL V (Proc.devRef .tc main_v39) = ram (args V) :=
  (opsL_keep (by decide) (UK V)).trans (UK_ram V)
theorem UL_rdr (V : Valuation τ sig (Elt F)) : UL V (Proc.devRef .tc main_v44) = rdr (args V) :=
  (opsL_keep (by decide) (UK V)).trans (UK_rdr V)
theorem UL_rdir (V : Valuation τ sig (Elt F)) : UL V (Proc.devRef .tc main_v49) = rdir (args V) :=
  (opsL_keep (by decide) (UK V)).trans (UK_rdir V)
theorem UL_rst (V : Valuation τ sig (Elt F)) : UL V (Proc.devRef .tc main_v62) = rst (args V) :=
  (opsL_keep (by decide) (UK V)).trans (UK_rst V)
theorem UL_rva (V : Valuation τ sig (Elt F)) : UL V (Proc.devRef .tc main_v67) = rva (args V) :=
  (opsL_keep (by decide) (UK V)).trans (UK_rva V)
theorem UL_rnp (V : Valuation τ sig (Elt F)) : UL V (Proc.devRef .tc main_v70) = rnp (args V) :=
  (opsL_keep (by decide) (UK V)).trans (UK_rnp V)
theorem UL_rla (V : Valuation τ sig (Elt F)) : UL V (Proc.devRef .tc main_v81) = rla (args V) :=
  (opsL_keep (by decide) (UK V)).trans (UK_rla V)
theorem UL_rlp (V : Valuation τ sig (Elt F)) : UL V (Proc.devRef .tc main_v85) = rlp (args V) :=
  (opsL_keep (by decide) (UK V)).trans (UK_rlp V)
theorem UL_ren (V : Valuation τ sig (Elt F)) : UL V (Proc.devRef .tc main_v91) = ren (args V) := by
  refine (opsL_val (UK V)).trans ?_
  rw [UK_rpr]
  rfl
theorem UM_arg {r : Ref sig .tc} (h : r ∈ argRefs) (V : Valuation τ sig (Elt F)) : UM V (Proc.devRef .tc r) = V (Proc.devRef .tc r) :=
  (opsM_keep ((by decide : ∀ r ∈ argRefs, r ∉ wrM) r h) (UL V)).trans (UL_arg h V)
theorem UM_rrs (V : Valuation τ sig (Elt F)) : UM V (Proc.devRef .tc main_v16) = rrs (args V) :=
  (opsM_keep (by decide) (UL V)).trans (UL_rrs V)
theorem UM_rlog (V : Valuation τ sig (Elt F)) : UM V (Proc.devRef .tc main_v27) = rlog (args V) :=
  (opsM_keep (by decide) (UL V)).trans (UL_rlog V)
theorem UM_rpr (V : Valuation τ sig (Elt F)) : UM V (Proc.devRef .tc main_v38) = rpr (args V) :=
  (opsM_keep (by decide) (UL V)).trans (UL_rpr V)
theorem UM_ram (V : Valuation τ sig (Elt F)) : UM V (Proc.devRef .tc main_v39) = ram (args V) :=
  (opsM_keep (by decide) (UL V)).trans (UL_ram V)
theorem UM_rdr (V : Valuation τ sig (Elt F)) : UM V (Proc.devRef .tc main_v44) = rdr (args V) :=
  (opsM_keep (by decide) (UL V)).trans (UL_rdr V)
theorem UM_rdir (V : Valuation τ sig (Elt F)) : UM V (Proc.devRef .tc main_v49) = rdir (args V) :=
  (opsM_keep (by decide) (UL V)).trans (UL_rdir V)
theorem UM_rst (V : Valuation τ sig (Elt F)) : UM V (Proc.devRef .tc main_v62) = rst (args V) :=
  (opsM_keep (by decide) (UL V)).trans (UL_rst V)
theorem UM_rva (V : Valuation τ sig (Elt F)) : UM V (Proc.devRef .tc main_v67) = rva (args V) :=
  (opsM_keep (by decide) (UL V)).trans (UL_rva V)
theorem UM_rnp (V : Valuation τ sig (Elt F)) : UM V (Proc.devRef .tc main_v70) = rnp (args V) :=
  (opsM_keep (by decide) (UL V)).trans (UL_rnp V)
theorem UM_rla (V : Valuation τ sig (Elt F)) : UM V (Proc.devRef .tc main_v81) = rla (args V) :=
  (opsM_keep (by decide) (UL V)).trans (UL_rla V)
theorem UM_rlp (V : Valuation τ sig (Elt F)) : UM V (Proc.devRef .tc main_v85) = rlp (args V) :=
  (opsM_keep (by decide) (UL V)).trans (UL_rlp V)
theorem UM_ren (V : Valuation τ sig (Elt F)) : UM V (Proc.devRef .tc main_v91) = ren (args V) :=
  (opsM_keep (by decide) (UL V)).trans (UL_ren V)
theorem UM_rp0 (V : Valuation τ sig (Elt F)) : UM V (Proc.devRef .tc main_v93) = rp0 (args V) := by
  refine (opsM_val (UL V)).trans ?_
  rw [UL_rpr]
  rfl
theorem UN_arg {r : Ref sig .tc} (h : r ∈ argRefs) (V : Valuation τ sig (Elt F)) : UN V (Proc.devRef .tc r) = V (Proc.devRef .tc r) :=
  (opsN_keep ((by decide : ∀ r ∈ argRefs, r ∉ wrN) r h) (UM V)).trans (UM_arg h V)
theorem UN_rrs (V : Valuation τ sig (Elt F)) : UN V (Proc.devRef .tc main_v16) = rrs (args V) :=
  (opsN_keep (by decide) (UM V)).trans (UM_rrs V)
theorem UN_rlog (V : Valuation τ sig (Elt F)) : UN V (Proc.devRef .tc main_v27) = rlog (args V) :=
  (opsN_keep (by decide) (UM V)).trans (UM_rlog V)
theorem UN_rpr (V : Valuation τ sig (Elt F)) : UN V (Proc.devRef .tc main_v38) = rpr (args V) :=
  (opsN_keep (by decide) (UM V)).trans (UM_rpr V)
theorem UN_ram (V : Valuation τ sig (Elt F)) : UN V (Proc.devRef .tc main_v39) = ram (args V) :=
  (opsN_keep (by decide) (UM V)).trans (UM_ram V)
theorem UN_rdr (V : Valuation τ sig (Elt F)) : UN V (Proc.devRef .tc main_v44) = rdr (args V) :=
  (opsN_keep (by decide) (UM V)).trans (UM_rdr V)
theorem UN_rdir (V : Valuation τ sig (Elt F)) : UN V (Proc.devRef .tc main_v49) = rdir (args V) :=
  (opsN_keep (by decide) (UM V)).trans (UM_rdir V)
theorem UN_rst (V : Valuation τ sig (Elt F)) : UN V (Proc.devRef .tc main_v62) = rst (args V) :=
  (opsN_keep (by decide) (UM V)).trans (UM_rst V)
theorem UN_rva (V : Valuation τ sig (Elt F)) : UN V (Proc.devRef .tc main_v67) = rva (args V) :=
  (opsN_keep (by decide) (UM V)).trans (UM_rva V)
theorem UN_rnp (V : Valuation τ sig (Elt F)) : UN V (Proc.devRef .tc main_v70) = rnp (args V) :=
  (opsN_keep (by decide) (UM V)).trans (UM_rnp V)
theorem UN_rla (V : Valuation τ sig (Elt F)) : UN V (Proc.devRef .tc main_v81) = rla (args V) :=
  (opsN_keep (by decide) (UM V)).trans (UM_rla V)
theorem UN_rlp (V : Valuation τ sig (Elt F)) : UN V (Proc.devRef .tc main_v85) = rlp (args V) :=
  (opsN_keep (by decide) (UM V)).trans (UM_rlp V)
theorem UN_ren (V : Valuation τ sig (Elt F)) : UN V (Proc.devRef .tc main_v91) = ren (args V) :=
  (opsN_keep (by decide) (UM V)).trans (UM_ren V)
theorem UN_rp0 (V : Valuation τ sig (Elt F)) : UN V (Proc.devRef .tc main_v93) = rp0 (args V) :=
  (opsN_keep (by decide) (UM V)).trans (UM_rp0 V)
theorem UN_rv0 (V : Valuation τ sig (Elt F)) : UN V (Proc.devRef .tc main_v94) = rv0 (args V) := by
  refine (opsN_val (UM V)).trans ?_
  rw [UM_rva]
  rfl

/-- The run: every execution ends with every buffer at what the windows, one after the other, leave in it. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = UN (StableHlo.launchContents m c) (Proc.devRef .tc b) :=
  (θ_run defs _ _).mono (fun _ h c b => by rw [← after_ops]; exact h c b)
    (StableHlo.run_seq scopedRefs_eq scopedSems_eq defs main (fun _ => ops) main_eq (fun _ => ops_sub) m ρ)

/-- The frame: the arguments as they were and every counter at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19))
      ∧ r.2.sem = fun _ => 0 :=
  (θ_run defs _ _).mono (fun r h => ⟨fun c => ⟨(h c main_arg0).trans (UN_arg (by decide) _),
    (h c main_arg1).trans (UN_arg (by decide) _),
    (h c main_arg2).trans (UN_arg (by decide) _),
    (h c main_arg3).trans (UN_arg (by decide) _),
    (h c main_arg4).trans (UN_arg (by decide) _),
    (h c main_arg5).trans (UN_arg (by decide) _),
    (h c main_arg6).trans (UN_arg (by decide) _),
    (h c main_arg7).trans (UN_arg (by decide) _),
    (h c main_arg8).trans (UN_arg (by decide) _),
    (h c main_arg9).trans (UN_arg (by decide) _),
    (h c main_arg10).trans (UN_arg (by decide) _),
    (h c main_arg11).trans (UN_arg (by decide) _),
    (h c main_arg12).trans (UN_arg (by decide) _),
    (h c main_arg13).trans (UN_arg (by decide) _),
    (h c main_arg14).trans (UN_arg (by decide) _),
    (h c main_arg15).trans (UN_arg (by decide) _),
    (h c main_arg16).trans (UN_arg (by decide) _),
    (h c main_arg17).trans (UN_arg (by decide) _),
    (h c main_arg18).trans (UN_arg (by decide) _),
    (h c main_arg19).trans (UN_arg (by decide) _)⟩,
    sem_eq_zero_of_no_sems (by decide) r.2⟩) (run m ρ)

end Cert.ReferenceIdeal.Hand

end
-- ==== Proof.Pays.lean ====
/- Hand-written. What each value that the body stores is, at an index, over the extended reals. -/
module
public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The entropy of the two probabilities, from the difference of the logits. -/
def entK (d : EReal) : EReal :=
  0 - (Ideal.logistic d * Ideal.log (Ideal.logistic d + Ideal.ofBits .f32 0x322BCC77#32)
    + Ideal.logistic (0 - d) * Ideal.log (Ideal.logistic (0 - d) + Ideal.ofBits .f32 0x322BCC77#32))
/-- The log of the larger probability, from the difference of the logits. -/
def lpK (d : EReal) : EReal :=
  0 - (max (0 - max d (-d)) 0 + Ideal.log1p (Ideal.exp (0 - max (0 - max d (-d) - 0) (-(0 - max d (-d) - 0)))))
/-- A row's step: twice the squashed step size over the direction's length, times the direction. -/
def stepK (s : EReal) (D : Fin 1024 → EReal) (j : Fin 1024) : EReal :=
  Ideal.div (Ideal.logistic s * Ideal.ofBits .f32 0x40000000#32)
    (max (Ideal.sqrt (∑ t : Fin 1024, D t * D t)) (Ideal.ofBits .f32 0x2B8CBCCC#32)) * D j

/-- A tile of rows, out of its slot. -/
theorem pay1_at (v : Vec Ideal S1x256x4096 .f32) (i : Fin 256) (j : Fin 4096) :
    k0_pay1 v (ix2 i j) = v (ix3 0 i j) := by
  pointwise [k0_pay1]

/-- A tile of rows, out of its slot. -/
theorem pay2_at (v : Vec Ideal S1x256x4096 .f32) (i : Fin 256) (j : Fin 4096) :
    k0_pay2 v (ix2 i j) = v (ix3 0 i j) := by
  pointwise [k0_pay2]

/-- A tile of rows, out of its slot. -/
theorem pay3_at (v : Vec Ideal S1x256x4096 .f32) (i : Fin 256) (j : Fin 4096) :
    k0_pay3 v (ix2 i j) = v (ix3 0 i j) := by
  pointwise [k0_pay3]

/-- A tile of rows, out of its slot. -/
theorem pay4_at (v : Vec Ideal S1x256x4096 .f32) (i : Fin 256) (j : Fin 4096) :
    k0_pay4 v (ix2 i j) = v (ix3 0 i j) := by
  pointwise [k0_pay4]

/-- A tile of rows, out of its slot. -/
theorem pay5_at (v : Vec Ideal S1x256x4096 .f32) (i : Fin 256) (j : Fin 4096) :
    k0_pay5 v (ix2 i j) = v (ix3 0 i j) := by
  pointwise [k0_pay5]

/-- A tile of rows, out of its slot. -/
theorem pay6_at (v : Vec Ideal S1x256x4096 .f32) (i : Fin 256) (j : Fin 4096) :
    k0_pay6 v (ix2 i j) = v (ix3 0 i j) := by
  pointwise [k0_pay6]

/-- A tile of rows, out of its slot. -/
theorem pay7_at (v : Vec Ideal S1x256x4096 .f32) (i : Fin 256) (j : Fin 4096) :
    k0_pay7 v (ix2 i j) = v (ix3 0 i j) := by
  pointwise [k0_pay7]

/-- A tile of rows, out of its slot. -/
theorem pay8_at (v : Vec Ideal S1x256x4096 .f32) (i : Fin 256) (j : Fin 4096) :
    k0_pay8 v (ix2 i j) = v (ix3 0 i j) := by
  pointwise [k0_pay8]

/-- The hidden layer: product with the transposed weights, bias, positive part. -/
theorem pay9_at (X W : Vec Ideal S1024x4096 .bf16) (b : Vec Ideal S1x1024 .f32) (i : Fin 1024) (j : Fin 1024) :
    k0_pay9 X W b (ix2 i j) = max ((∑ t : Fin 4096, (X (ix2 i t) * W (ix2 j t) : EReal)) + b (ix2 0 j)) 0 := by
  pointwise [k0_pay9]

/-- A product with transposed weights, and the bias. -/
theorem pay10_at (X : Vec Ideal S1024x1024 .bf16) (W : Vec Ideal S1x1024x1024 .f32) (b : Vec Ideal S1x1024 .f32) (i : Fin 1024) (j : Fin 1024) :
    k0_pay10 X W b (ix2 i j) = (∑ t : Fin 1024, (X (ix2 i t) * W (ix3 0 j t) : EReal)) + b (ix2 0 j) := by
  pointwise [k0_pay10]

/-- The rounded copy is the array itself. -/
theorem pay11_at (X : Vec Ideal S1024x1024 .f32) (i : Fin 1024) (j : Fin 1024) :
    k0_pay11 X (ix2 i j) = X (ix2 i j) := by
  pointwise [k0_pay11]

/-- A product with transposed weights, and the bias. -/
theorem pay12_at (X : Vec Ideal S1024x1024 .bf16) (W : Vec Ideal S1x1024x1024 .f32) (b : Vec Ideal S1x1024 .f32) (i : Fin 1024) (j : Fin 1024) :
    k0_pay12 X W b (ix2 i j) = (∑ t : Fin 1024, (X (ix2 i t) * W (ix3 0 j t) : EReal)) + b (ix2 0 j) := by
  pointwise [k0_pay12]

/-- The classifier weights, out of their slot. -/
theorem pay13_at (v : Vec Ideal S1x512x1024 .f32) (i : Fin 512) (j : Fin 1024) :
    k0_pay13 v (ix2 i j) = v (ix3 0 i j) := by
  pointwise [k0_pay13]

/-- The difference of the two logits. -/
theorem pay15_at (X : Vec Ideal S1024x1024 .bf16) (W : Vec Ideal S512x1024 .bf16) (b : Vec Ideal S1x512 .f32) (sc : Vec Ideal S1x3 .f32) (wd : Vec Ideal S1x512 .f32) (i : Fin 1024) :
    k0_pay15 X W b sc wd (ix2 i 0) = (∑ h : Fin 512, (max ((∑ t : Fin 1024, (X (ix2 i t) * W (ix2 h t) : EReal)) + b (ix2 0 h)) 0 * wd (ix2 0 h) : EReal)) + sc (ix2 0 2) := by
  pointwise [k0_pay15, k0_pay14]

/-- A row product with one weight row, and the scalar bias. -/
theorem pay16_at (X : Vec Ideal S1024x1024 .f32) (sc : Vec Ideal S1x3 .f32) (w : Vec Ideal S1x1024 .f32) (i : Fin 1024) :
    k0_pay16 X sc w (ix2 i 0) = (∑ t : Fin 1024, (X (ix2 i t) * w (ix2 0 t) : EReal)) + sc (ix2 0 0) := by
  pointwise [k0_pay16, k0_pay14]

/-- A row product with one weight row, and the scalar bias. -/
theorem pay17_at (X : Vec Ideal S1024x1024 .f32) (sc : Vec Ideal S1x3 .f32) (w : Vec Ideal S1x1024 .f32) (i : Fin 1024) :
    k0_pay17 X sc w (ix2 i 0) = (∑ t : Fin 1024, (X (ix2 i t) * w (ix2 0 t) : EReal)) + sc (ix2 0 1) := by
  pointwise [k0_pay17, k0_pay14]

/-- The first probability. -/
theorem pay18_at (d : FVec Ideal S1024x1 .f32) (i : Fin 1024) :
    k0_pay18 d (ix2 i 0) = Ideal.logistic (d (ix2 i 0)) := by
  pointwise [k0_pay18]

/-- The entropy, from the difference of the logits. -/
theorem pay19_at (d : FVec Ideal S1024x1 .f32) (i : Fin 1024) :
    k0_pay19 d (ix2 i 0) = entK (d (ix2 i 0)) := by
  pointwise [k0_pay19, k0_pay18, entK]

/-- The log of the larger probability, from the difference of the logits. -/
theorem pay20_at (d : FVec Ideal S1024x1 .f32) (i : Fin 1024) :
    k0_pay20 d (ix2 i 0) = lpK (d (ix2 i 0)) := by
  pointwise [k0_pay20, lpK]
  rw [if_neg (fun h => h rfl)]
  rfl

/-- The step along the normalised direction. -/
theorem pay21_at (s : FVec Ideal S1024x1 .f32) (D : FVec Ideal S1024x1024 .f32) (i : Fin 1024) (j : Fin 1024) :
    k0_pay21 s D (ix2 i j) = stepK (s (ix2 i 0)) (fun t => D (ix2 i t)) j := by
  pointwise [k0_pay21, stepK]

/-- The new position. -/
theorem pay23_at (X Y : Vec Ideal S1024x1024 .f32) (i : Fin 1024) (j : Fin 1024) :
    k0_pay23 X Y (ix2 i j) = (X (ix2 i j) + Y (ix2 i j) : EReal) := by
  pointwise [k0_pay23, k0_pay22]

/-- The rounded copy of the new position. -/
theorem pay24_at (X Y : Vec Ideal S1024x1024 .f32) (i : Fin 1024) (j : Fin 1024) :
    k0_pay24 X Y (ix2 i j) = (X (ix2 i j) + Y (ix2 i j) : EReal) := by
  pointwise [k0_pay24, k0_pay22]

/-- Column 0 of the packed scalars. -/
theorem pay25_0 (v p e l : FVec Ideal S1024x1 .f32) (i : Fin 1024) :
    k0_pay25 v p e l (ix2 i 0) = p (ix2 i 0) := by
  pointwise [k0_pay25]

/-- Column 1 of the packed scalars. -/
theorem pay25_1 (v p e l : FVec Ideal S1024x1 .f32) (i : Fin 1024) :
    k0_pay25 v p e l (ix2 i 1) = v (ix2 i 0) := by
  pointwise [k0_pay25]

/-- Column 2 of the packed scalars. -/
theorem pay25_2 (v p e l : FVec Ideal S1024x1 .f32) (i : Fin 1024) :
    k0_pay25 v p e l (ix2 i 2) = l (ix2 i 0) := by
  pointwise [k0_pay25]

/-- Column 3 of the packed scalars. -/
theorem pay25_3 (v p e l : FVec Ideal S1024x1 .f32) (i : Fin 1024) :
    k0_pay25 v p e l (ix2 i 3) = e (ix2 i 0) := by
  pointwise [k0_pay25]

/-- The weights, out of their slot. -/
theorem pay26_at (v : Vec Ideal S1x1024x1024 .f32) (i : Fin 1024) (j : Fin 1024) :
    k0_pay26 v (ix2 i j) = v (ix3 0 i j) := by
  pointwise [k0_pay26]

/-- A product with transposed weights, bias, positive part. -/
theorem pay27_at (X W : Vec Ideal S1024x1024 .bf16) (b : Vec Ideal S1x1024 .f32) (i : Fin 1024) (j : Fin 1024) :
    k0_pay27 X W b (ix2 i j) = max ((∑ t : Fin 1024, (X (ix2 i t) * W (ix2 j t) : EReal)) + b (ix2 0 j)) 0 := by
  pointwise [k0_pay27]

/-- A product with transposed weights. -/
theorem pay28_at (W : Vec Ideal S1x1024x1024 .f32) (X : Vec Ideal S1024x1024 .bf16) (i : Fin 1024) (j : Fin 1024) :
    k0_pay28 W X (ix2 i j) = (∑ t : Fin 1024, (X (ix2 i t) * W (ix3 0 j t) : EReal)) := by
  pointwise [k0_pay28]

/-- The bias, on every row. -/
theorem pay29_at (b : Vec Ideal S1x1024 .f32) (i : Fin 1024) (j : Fin 1024) :
    k0_pay29 b (ix2 i j) = b (ix2 0 j) := by
  pointwise [k0_pay29]

/-- A tile of the decoded latent, into its slot. -/
theorem pay30_at (X Y : FVec Ideal S1024x1024 .f32) (i : Fin 1024) (j : Fin 1024) :
    k0_pay30 X Y (ix3 0 i j) = (X (ix2 i j) + Y (ix2 i j) : EReal) := by
  pointwise [k0_pay30]

/-- A tile of the decoded latent, into its slot. -/
theorem pay31_at (W : Vec Ideal S1x1024x1024 .f32) (X : Vec Ideal S1024x1024 .bf16) (b : Vec Ideal S1x1024 .f32) (i : Fin 1024) (j : Fin 1024) :
    k0_pay31 W X b (ix3 0 i j) = (∑ t : Fin 1024, (X (ix2 i t) * W (ix3 0 j t) : EReal)) + b (ix2 0 j) := by
  pointwise [k0_pay31]

/-- A tile of the decoded latent, into its slot. -/
theorem pay32_at (W : Vec Ideal S1x1024x1024 .f32) (X : Vec Ideal S1024x1024 .bf16) (b : Vec Ideal S1x1024 .f32) (i : Fin 1024) (j : Fin 1024) :
    k0_pay32 W X b (ix3 0 i j) = (∑ t : Fin 1024, (X (ix2 i t) * W (ix3 0 j t) : EReal)) + b (ix2 0 j) := by
  pointwise [k0_pay32]

/-- A tile of the decoded latent, into its slot. -/
theorem pay33_at (W : Vec Ideal S1x1024x1024 .f32) (X : Vec Ideal S1024x1024 .bf16) (b : Vec Ideal S1x1024 .f32) (i : Fin 1024) (j : Fin 1024) :
    k0_pay33 W X b (ix3 0 i j) = (∑ t : Fin 1024, (X (ix2 i t) * W (ix3 0 j t) : EReal)) + b (ix2 0 j) := by
  pointwise [k0_pay33]

end Cert.KernelIdeal.Hand

end
-- ==== Proof.Values.lean ====
/- Hand-written. What the body reads back from its scratches, at an index, over the extended reals. -/
module
public import proofs.«01_k».proof.Proof.Run0
public import proofs.«01_k».proof.Proof.Pays
public import Idealize.ShloMosaic.Lib.Pointwise
public import Idealize.ShloMosaic.Lib.Writes
public import Idealize.ShloMosaic.Lib.ReshapeSlab
public import Idealize.ShloMosaic.Lib.Pipeline.Value
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Reading a slot that the transfer on top has just filled gives the transfer's payload, reshaped. -/
theorem slot_hit {Val : EltTy → Type} {e : EltTy} {s s' : Shape} {k : Kind} {sp : Space} (m : Memref sig k sp s e) (r : Rect s) (h) (hs : r.shape.Squeezes s')
    (f : m.view.ty.Contents Val) (w : s'.Idx → Val e) :
    View.readAt Val m.view r.toLoadRect (View.write Val ((m.slice r h).squeeze s' hs).view f w Finset.univ)
      = fun j => w (Shape.reshapeEquiv hs.numel_eq.symm j) := by
  rw [View.readAt_rect]
  show (m.view.slice r).read Val (((m.view.slice r).reshape s' hs.numel_eq).write Val f w Finset.univ) = _
  rw [View.write_reshape_univ, View.read_write_univ, Shape.reshapeEquiv_symm]

/-- Reading a slot passes over a transfer into a slot apart from it. -/
theorem slot_miss {Val : EltTy → Type} {e : EltTy} {s s' : Shape} {k : Kind} {sp : Space} (m : Memref sig k sp s e) (r r' : Rect s) (h) (hs : r'.shape.Squeezes s')
    (a : Fin s.rank) (h₁ : r.stride a = 1) (h₂ : r'.stride a = 1) (hd : r.off a + r.size a ≤ r'.off a ∨ r'.off a + r'.size a ≤ r.off a)
    (f : m.view.ty.Contents Val) (w : s'.Idx → Val e) :
    View.readAt Val m.view r.toLoadRect (View.write Val ((m.slice r' h).squeeze s' hs).view f w Finset.univ)
      = View.readAt Val m.view r.toLoadRect f := by
  rw [View.readAt_rect, View.readAt_rect]
  show (m.view.slice r).read Val (((m.view.slice r').reshape s' hs.numel_eq).write Val f w Finset.univ) = _
  rw [View.write_reshape_univ]
  refine View.read_slice_write_slice_of_disjoint _ _ _ _ _ ?_
  rw [View.setOn_univ]
  exact View.disjoint_slice_of_sep _ _ _ a h₁ h₂ hd

/-- Two indices of a matrix are one if their coordinates are. -/
theorem idx2_ext {d : Fin 2 → Nat} {p q : (⟨2, d⟩ : Shape).Idx} (h0 : (p 0).val = (q 0).val) (h1 : (p 1).val = (q 1).val) : p = q :=
  funext fun a => by
    match a with
    | ⟨0, _⟩ => exact Fin.ext h0
    | ⟨1, _⟩ => exact Fin.ext h1

section
variable (c : Dev nD) (a0 a1 a2 a5 a6 a8 : Memref sig .tc .vmem S1x1024 .f32) (a3 a4 : Memref sig .tc .vmem S1x512 .f32)
  (a7 : Memref sig .tc .vmem S1x3 .f32) (a9 : Memref sig .tc .vmem S1x4096 .f32)
  (x : Cts (F := Ideal) c main_arg0) (w1 : Cts (F := Ideal) c main_arg2) (w2 : Cts (F := Ideal) c main_arg4)
  (dr : Cts (F := Ideal) c main_arg14) (ch : Cts (F := Ideal) c main_arg10) (tp1 : Cts (F := Ideal) c main_arg6) (tp2 : Cts (F := Ideal) c main_arg8)
  (fw0 : a0.view.ty.Contents (Elt Ideal)) (fw1 : a1.view.ty.Contents (Elt Ideal)) (fw2 : a2.view.ty.Contents (Elt Ideal))
  (fw3 : a3.view.ty.Contents (Elt Ideal)) (fw4 : a4.view.ty.Contents (Elt Ideal)) (fw5 : a5.view.ty.Contents (Elt Ideal))
  (fw6 : a6.view.ty.Contents (Elt Ideal)) (fw7 : a7.view.ty.Contents (Elt Ideal)) (fw8 : a8.view.ty.Contents (Elt Ideal))
  (fw9 : a9.view.ty.Contents (Elt Ideal)) (fs0 : Cts (F := Ideal) c cc0_scratch0) (fs1 : Cts (F := Ideal) c cc0_scratch1)

/-- What that slot holds when it is read: rows 0 on of its operand. -/
theorem v15_at (i : Fin 256) (j : Fin 4096) : (run0.sl.v15 c x fs0 (ix3 0 i j) : EReal) = x (ix2 ⟨i.val, by omega⟩ j) := by
  unfold run0.sl.v15
  repeat first | rw [slot_hit] | rw [slot_miss _ _ _ _ _ 0 rfl rfl (by decide)]
  pointwise [run0.sl.dma0]
  show x _ = x _
  refine congrArg _ (idx2_ext ?_ ?_)
  · show 0 + 1 * i.val = i.val; omega
  · show 0 + 1 * j.val = j.val; omega

/-- What that slot holds when it is read: rows 256 on of its operand. -/
theorem v31_at (i : Fin 256) (j : Fin 4096) : (run0.sl.v31 c x fs0 (ix3 0 i j) : EReal) = x (ix2 ⟨256 + i.val, by omega⟩ j) := by
  unfold run0.sl.v31
  repeat first | rw [slot_hit] | rw [slot_miss _ _ _ _ _ 0 rfl rfl (by decide)]
  pointwise [run0.sl.dma0_1]
  show x _ = x _
  refine congrArg _ (idx2_ext ?_ ?_)
  · show 256 + 1 * i.val = 256 + i.val; omega
  · show 0 + 1 * j.val = j.val; omega

/-- What that slot holds when it is read: rows 512 on of its operand. -/
theorem v47_at (i : Fin 256) (j : Fin 4096) : (run0.sl.v47 c x fs0 (ix3 0 i j) : EReal) = x (ix2 ⟨512 + i.val, by omega⟩ j) := by
  unfold run0.sl.v47
  repeat first | rw [slot_hit] | rw [slot_miss _ _ _ _ _ 0 rfl rfl (by decide)]
  pointwise [run0.sl.dma3]
  show x _ = x _
  refine congrArg _ (idx2_ext ?_ ?_)
  · show 512 + 1 * i.val = 512 + i.val; omega
  · show 0 + 1 * j.val = j.val; omega

/-- What that slot holds when it is read: rows 768 on of its operand. -/
theorem v63_at (i : Fin 256) (j : Fin 4096) : (run0.sl.v63 c x w1 fs0 (ix3 0 i j) : EReal) = x (ix2 ⟨768 + i.val, by omega⟩ j) := by
  unfold run0.sl.v63
  repeat first | rw [slot_hit] | rw [slot_miss _ _ _ _ _ 0 rfl rfl (by decide)]
  pointwise [run0.sl.dma6]
  show x _ = x _
  refine congrArg _ (idx2_ext ?_ ?_)
  · show 768 + 1 * i.val = 768 + i.val; omega
  · show 0 + 1 * j.val = j.val; omega

/-- What that slot holds when it is read: rows 0 on of its operand. -/
theorem v79_at (i : Fin 256) (j : Fin 4096) : (run0.sl.v79 c x w1 fs0 (ix3 0 i j) : EReal) = w1 (ix2 ⟨i.val, by omega⟩ j) := by
  unfold run0.sl.v79
  repeat first | rw [slot_hit] | rw [slot_miss _ _ _ _ _ 0 rfl rfl (by decide)]
  pointwise [run0.sl.dma9]
  show w1 _ = w1 _
  refine congrArg _ (idx2_ext ?_ ?_)
  · show 0 + 1 * i.val = i.val; omega
  · show 0 + 1 * j.val = j.val; omega

/-- What that slot holds when it is read: rows 256 on of its operand. -/
theorem v95_at (i : Fin 256) (j : Fin 4096) : (run0.sl.v95 c x w1 fs0 (ix3 0 i j) : EReal) = w1 (ix2 ⟨256 + i.val, by omega⟩ j) := by
  unfold run0.sl.v95
  repeat first | rw [slot_hit] | rw [slot_miss _ _ _ _ _ 0 rfl rfl (by decide)]
  pointwise [run0.sl.dma12]
  show w1 _ = w1 _
  refine congrArg _ (idx2_ext ?_ ?_)
  · show 256 + 1 * i.val = 256 + i.val; omega
  · show 0 + 1 * j.val = j.val; omega

/-- What that slot holds when it is read: rows 512 on of its operand. -/
theorem v111_at (i : Fin 256) (j : Fin 4096) : (run0.sl.v111 c x w1 fs0 (ix3 0 i j) : EReal) = w1 (ix2 ⟨512 + i.val, by omega⟩ j) := by
  unfold run0.sl.v111
  repeat first | rw [slot_hit] | rw [slot_miss _ _ _ _ _ 0 rfl rfl (by decide)]
  pointwise [run0.sl.dma15]
  show w1 _ = w1 _
  refine congrArg _ (idx2_ext ?_ ?_)
  · show 512 + 1 * i.val = 512 + i.val; omega
  · show 0 + 1 * j.val = j.val; omega

/-- What that slot holds when it is read: rows 768 on of its operand. -/
theorem v122_at (i : Fin 256) (j : Fin 4096) : (run0.sl.v122 c x w1 fs0 (ix3 0 i j) : EReal) = w1 (ix2 ⟨768 + i.val, by omega⟩ j) := by
  unfold run0.sl.v122
  repeat first | rw [slot_hit] | rw [slot_miss _ _ _ _ _ 0 rfl rfl (by decide)]
  pointwise [run0.sl.dma18]
  show w1 _ = w1 _
  refine congrArg _ (idx2_ext ?_ ?_)
  · show 768 + 1 * i.val = 768 + i.val; omega
  · show 0 + 1 * j.val = j.val; omega

/-- What that slot holds when it is read: rows 0 on of its operand. -/
theorem v162_at (i : Fin 1024) (j : Fin 1024) : (run0.sl.v162 c w2 dr ch fs1 (ix3 0 i j) : EReal) = w2 (ix2 i j) := by
  unfold run0.sl.v162
  repeat first | rw [slot_hit] | rw [slot_miss _ _ _ _ _ 0 rfl rfl (by decide)]
  pointwise [run0.sl.dma24]
  show w2 _ = w2 _
  refine congrArg _ (idx2_ext ?_ ?_)
  · show 0 + 1 * i.val = i.val; omega
  · show 0 + 1 * j.val = j.val; omega

/-- What that slot holds when it is read: rows 0 on of its operand. -/
theorem v189_at (i : Fin 1024) (j : Fin 1024) : (run0.sl.v189 c w2 dr ch tp1 fs1 (ix3 0 i j) : EReal) = dr (ix2 i j) := by
  unfold run0.sl.v189
  repeat first | rw [slot_hit] | rw [slot_miss _ _ _ _ _ 0 rfl rfl (by decide)]
  pointwise [run0.sl.dma24_1]
  show dr _ = dr _
  refine congrArg _ (idx2_ext ?_ ?_)
  · show 0 + 1 * i.val = i.val; omega
  · show 0 + 1 * j.val = j.val; omega

/-- What that slot holds when it is read: rows 0 on of its operand. -/
theorem v211_at (i : Fin 512) (j : Fin 1024) : (run0.sl.v211 c w2 dr ch tp1 tp2 fs1 (ix3 0 i j) : EReal) = ch (ix2 i j) := by
  unfold run0.sl.v211
  repeat first | rw [slot_hit] | rw [slot_miss _ _ _ _ _ 0 rfl rfl (by decide)]
  pointwise [run0.sl.dma24_2]
  show ch _ = ch _
  refine congrArg _ (idx2_ext ?_ ?_)
  · show 0 + 1 * i.val = i.val; omega
  · show 0 + 1 * j.val = j.val; omega

/-- What that slot holds when it is read: rows 0 on of its operand. -/
theorem v326_at (i : Fin 1024) (j : Fin 1024) : (run0.sl.v326 c w2 dr ch tp1 tp2 fs1 (ix3 0 i j) : EReal) = tp1 (ix2 i j) := by
  unfold run0.sl.v326
  repeat first | rw [slot_hit] | rw [slot_miss _ _ _ _ _ 0 rfl rfl (by decide)]
  pointwise [run0.sl.dma31]
  show tp1 _ = tp1 _
  refine congrArg _ (idx2_ext ?_ ?_)
  · show 0 + 1 * i.val = i.val; omega
  · show 0 + 1 * j.val = j.val; omega

/-- What that slot holds when it is read: rows 0 on of its operand. -/
theorem v350_at (i : Fin 1024) (j : Fin 1024) : (run0.sl.v350 c w2 dr ch tp1 tp2 fs1 (ix3 0 i j) : EReal) = tp2 (ix2 ⟨i.val, by omega⟩ j) := by
  unfold run0.sl.v350
  repeat first | rw [slot_hit] | rw [slot_miss _ _ _ _ _ 0 rfl rfl (by decide)]
  pointwise [run0.sl.dma39]
  show tp2 _ = tp2 _
  refine congrArg _ (idx2_ext ?_ ?_)
  · show 0 + 1 * i.val = i.val; omega
  · show 0 + 1 * j.val = j.val; omega

/-- What that slot holds when it is read: rows 1024 on of its operand. -/
theorem v377_at (i : Fin 1024) (j : Fin 1024) : (run0.sl.v377 c w2 dr ch tp1 tp2 fs1 (ix3 0 i j) : EReal) = tp2 (ix2 ⟨1024 + i.val, by omega⟩ j) := by
  unfold run0.sl.v377
  repeat first | rw [slot_hit] | rw [slot_miss _ _ _ _ _ 0 rfl rfl (by decide)]
  pointwise [run0.sl.dma44]
  show tp2 _ = tp2 _
  refine congrArg _ (idx2_ext ?_ ?_)
  · show 1024 + 1 * i.val = 1024 + i.val; omega
  · show 0 + 1 * j.val = j.val; omega

/-- What that slot holds when it is read: rows 2048 on of its operand. -/
theorem v399_at (i : Fin 1024) (j : Fin 1024) : (run0.sl.v399 c w2 dr ch tp1 tp2 fs1 (ix3 0 i j) : EReal) = tp2 (ix2 ⟨2048 + i.val, by omega⟩ j) := by
  unfold run0.sl.v399
  repeat first | rw [slot_hit] | rw [slot_miss _ _ _ _ _ 0 rfl rfl (by decide)]
  pointwise [run0.sl.dma59]
  show tp2 _ = tp2 _
  refine congrArg _ (idx2_ext ?_ ?_)
  · show 2048 + 1 * i.val = 2048 + i.val; omega
  · show 0 + 1 * j.val = j.val; omega

/-- What that slot holds when it is read: rows 3072 on of its operand. -/
theorem v426_at (i : Fin 1024) (j : Fin 1024) : (run0.sl.v426 c w2 dr ch tp1 tp2 fs1 (ix3 0 i j) : EReal) = tp2 (ix2 ⟨3072 + i.val, by omega⟩ j) := by
  unfold run0.sl.v426
  repeat first | rw [slot_hit] | rw [slot_miss _ _ _ _ _ 0 rfl rfl (by decide)]
  pointwise [run0.sl.dma63]
  show tp2 _ = tp2 _
  refine congrArg _ (idx2_ext ?_ ?_)
  · show 3072 + 1 * i.val = 3072 + i.val; omega
  · show 0 + 1 * j.val = j.val; omega

end

end Cert.KernelIdeal.Hand

end
-- ==== Proof.Chain.lean ====
/- Hand-written. What the body computes and what it leaves in the results, at an index, over the extended reals. -/
module
public import proofs.«01_k».proof.Proof.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The arrays that the body reads, as functions of their coordinates. -/
structure KIn where
  X : Fin 1024 → Fin 4096 → EReal
  W1 : Fin 1024 → Fin 4096 → EReal
  B1 : Fin 1024 → EReal
  W2 : Fin 1024 → Fin 1024 → EReal
  B2 : Fin 1024 → EReal
  DR : Fin 1024 → Fin 1024 → EReal
  DB : Fin 1024 → EReal
  CH : Fin 512 → Fin 1024 → EReal
  CB : Fin 512 → EReal
  WD : Fin 512 → EReal
  SW : Fin 1024 → EReal
  VW : Fin 1024 → EReal
  SC : Fin 3 → EReal
  T1 : Fin 1024 → Fin 1024 → EReal
  TB1 : Fin 1024 → EReal
  T2 : Fin 4096 → Fin 1024 → EReal
  TB2 : Fin 4096 → EReal

/-- A linear layer: the product with the transposed weights, and the bias. -/
def lin {m n k : Nat} (X : Fin m → Fin k → EReal) (W : Fin n → Fin k → EReal) (b : Fin n → EReal) (i : Fin m) (j : Fin n) : EReal :=
  (∑ t : Fin k, X i t * W j t) + b j
/-- The positive part of a linear layer. -/
def rlin {m n k : Nat} (X : Fin m → Fin k → EReal) (W : Fin n → Fin k → EReal) (b : Fin n → EReal) (i : Fin m) (j : Fin n) : EReal :=
  max (lin X W b i j) 0

namespace KIn
variable (K : KIn)
def hid := rlin K.X K.W1 K.B1
def rs := lin K.hid K.W2 K.B2
def dir := lin K.rs K.DR K.DB
def ch := rlin K.rs K.CH K.CB
def d (i : Fin 1024) : EReal := (∑ h : Fin 512, K.ch i h * K.WD h) + K.SC 2
def st (i : Fin 1024) : EReal := (∑ t : Fin 1024, K.rs i t * K.SW t) + K.SC 0
def va (i : Fin 1024) : EReal := (∑ t : Fin 1024, K.rs i t * K.VW t) + K.SC 1
def np (i j : Fin 1024) : EReal := K.rs i j + stepK (K.st i) (K.dir i) j
def lh := rlin K.np K.T1 K.TB1
def la := lin K.lh K.T2 K.TB2
end KIn

/-- A window read through a box of columns. -/
theorem win_at {n q : Nat} {Val : EltTy → Type} {e : EltTy} (v : View sig .tc .vmem ⟨2, ![1, n]⟩ e) (o : Nat) (inb) (f : v.ty.Contents Val) (j : Fin q)
    (hj : o + j.val < n) :
    View.readAt Val v (Rect.unit (s := ⟨2, ![1, n]⟩) ![0, o] ![1, q] inb).toLoadRect f (ix2 0 j) = v.read Val f (ix2 0 ⟨o + j.val, hj⟩) := by
  show v.read Val f _ = v.read Val f _
  refine congrArg _ (idx2_ext ?_ ?_)
  · show 0 + 1 * 0 = 0; rfl
  · show o + 1 * j.val = o + j.val; omega

/-- A window read whole. -/
theorem win_full {n : Nat} {Val : EltTy → Type} {e : EltTy} (v : View sig .tc .vmem ⟨2, ![1, n]⟩ e) (inb) (f : v.ty.Contents Val) (j : Fin n) :
    View.readAt Val v (Rect.unit (s := ⟨2, ![1, n]⟩) ![0, 0] ![1, n] inb).toLoadRect f (ix2 0 j) = v.read Val f (ix2 0 j) := by
  rw [win_at v 0 inb f j (by omega)]
  simp only [Nat.zero_add]

/-- An array read back whole from its four tiles of rows. -/
theorem rows_cov {sp : Space} (v : View sig .tc sp S1024x4096 .bf16) (G : Fin 1024 → Fin 4096 → EReal) (p0 p1 p2 p3 : FVec Ideal S256x4096 .bf16)
    (h0 : ∀ (i : Fin 256) (j : Fin 4096), p0 (ix2 i j) = G ⟨i.val, by omega⟩ j)
    (h1 : ∀ (i : Fin 256) (j : Fin 4096), p1 (ix2 i j) = G ⟨256 + i.val, by omega⟩ j)
    (h2 : ∀ (i : Fin 256) (j : Fin 4096), p2 (ix2 i j) = G ⟨512 + i.val, by omega⟩ j)
    (h3 : ∀ (i : Fin 256) (j : Fin 4096), p3 (ix2 i j) = G ⟨768 + i.val, by omega⟩ j) (i : Fin 1024) (j : Fin 4096) :
    v.readCov (Val := Elt Ideal) [⟨Rect.unit ![768, 0] S256x4096.size inb_S1024x4096_S256x4096_768_0, p3⟩, ⟨Rect.unit ![512, 0] S256x4096.size inb_S1024x4096_S256x4096_512_0, p2⟩,
      ⟨Rect.unit ![256, 0] S256x4096.size inb_S1024x4096_S256x4096_256_0, p1⟩, ⟨Rect.unit ![0, 0] S256x4096.size inb_S1024x4096_S256x4096_0_0, p0⟩]
      (Rect.unit (s := S1024x4096) ![0, 0] S1024x4096.size inb_S1024x4096_S1024x4096_0_0).toLoadRect (ix2 i j) = G i j := by
  rw [View.readCov_eq_canon']
  have hy : ((Rect.unit (s := S1024x4096) ![0, 0] S1024x4096.size inb_S1024x4096_S1024x4096_0_0).toLoadRect.idx (ix2 i j)) = (ix2 i j : S1024x4096.Idx) :=
    idx2_ext (by show 0 + 1 * i.val = i.val; omega) (by show 0 + 1 * j.val = j.val; omega)
  beta_reduce
  rw [hy]
  refine (View.canon_apply_of_pieces (Val := Elt Ideal) (e := .bf16) (S := S1024x4096) (fun y => G (y 0) (y 1)) _ ?_ _ ?_)
  · intro p hp
    simp only [List.mem_cons, List.mem_nil_iff, or_false] at hp
    have eG : ∀ {a a' : Fin 1024} {b b' : Fin 4096}, a.val = a'.val → b.val = b'.val → G a b = G a' b' := fun ha hb => by rw [Fin.ext ha, Fin.ext hb]
    rcases hp with rfl | rfl | rfl | rfl
    · intro (y : S256x4096.Idx)
      obtain ⟨a, b, rfl⟩ : ∃ a b, y = ix2 a b := ⟨_, _, eq_ix2 y⟩
      exact (h3 a b).trans (eG (by show 768 + a.val = 768 + 1 * a.val; omega) (by show b.val = 0 + 1 * b.val; omega))
    · intro (y : S256x4096.Idx)
      obtain ⟨a, b, rfl⟩ : ∃ a b, y = ix2 a b := ⟨_, _, eq_ix2 y⟩
      exact (h2 a b).trans (eG (by show 512 + a.val = 512 + 1 * a.val; omega) (by show b.val = 0 + 1 * b.val; omega))
    · intro (y : S256x4096.Idx)
      obtain ⟨a, b, rfl⟩ : ∃ a b, y = ix2 a b := ⟨_, _, eq_ix2 y⟩
      exact (h1 a b).trans (eG (by show 256 + a.val = 256 + 1 * a.val; omega) (by show b.val = 0 + 1 * b.val; omega))
    · intro (y : S256x4096.Idx)
      obtain ⟨a, b, rfl⟩ : ∃ a b, y = ix2 a b := ⟨_, _, eq_ix2 y⟩
      exact (h0 a b).trans (eG (by show a.val = 0 + 1 * a.val; omega) (by show b.val = 0 + 1 * b.val; omega))
  · have hi := i.isLt
    have hj := j.isLt
    by_cases h3 : 768 ≤ i.val
    · refine ⟨_, .head _, ?_⟩
      exact (Rect.mem_set_unit (inb := inb_S1024x4096_S256x4096_768_0)).mpr (fun a => by match a with
        | ⟨0, _⟩ => exact ⟨h3, hi⟩
        | ⟨1, _⟩ => exact ⟨Nat.zero_le _, by show j.val < 0 + 4096; omega⟩)
    by_cases h2 : 512 ≤ i.val
    · refine ⟨_, .tail _ (.head _), ?_⟩
      exact (Rect.mem_set_unit (inb := inb_S1024x4096_S256x4096_512_0)).mpr (fun a => by match a with
        | ⟨0, _⟩ => exact ⟨h2, by show i.val < 512 + 256; omega⟩
        | ⟨1, _⟩ => exact ⟨Nat.zero_le _, by show j.val < 0 + 4096; omega⟩)
    by_cases h1 : 256 ≤ i.val
    · refine ⟨_, .tail _ (.tail _ (.head _)), ?_⟩
      exact (Rect.mem_set_unit (inb := inb_S1024x4096_S256x4096_256_0)).mpr (fun a => by match a with
        | ⟨0, _⟩ => exact ⟨h1, by show i.val < 256 + 256; omega⟩
        | ⟨1, _⟩ => exact ⟨Nat.zero_le _, by show j.val < 0 + 4096; omega⟩)
    · refine ⟨_, .tail _ (.tail _ (.tail _ (.head _))), ?_⟩
      exact (Rect.mem_set_unit (inb := inb_S1024x4096_S256x4096_0_0)).mpr (fun a => by match a with
        | ⟨0, _⟩ => exact ⟨Nat.zero_le _, by show i.val < 0 + 256; omega⟩
        | ⟨1, _⟩ => exact ⟨Nat.zero_le _, by show j.val < 0 + 4096; omega⟩)

section
variable (c : Dev nD) (a0 a1 a2 a5 a6 a8 : Memref sig .tc .vmem S1x1024 .f32) (a3 a4 : Memref sig .tc .vmem S1x512 .f32)
  (a7 : Memref sig .tc .vmem S1x3 .f32) (a9 : Memref sig .tc .vmem S1x4096 .f32)
  (x : Cts (F := Ideal) c main_arg0) (w1 : Cts (F := Ideal) c main_arg2) (w2 : Cts (F := Ideal) c main_arg4)
  (dr : Cts (F := Ideal) c main_arg14) (ch : Cts (F := Ideal) c main_arg10) (tp1 : Cts (F := Ideal) c main_arg6) (tp2 : Cts (F := Ideal) c main_arg8)
  (fw0 : a0.view.ty.Contents (Elt Ideal)) (fw1 : a1.view.ty.Contents (Elt Ideal)) (fw2 : a2.view.ty.Contents (Elt Ideal))
  (fw3 : a3.view.ty.Contents (Elt Ideal)) (fw4 : a4.view.ty.Contents (Elt Ideal)) (fw5 : a5.view.ty.Contents (Elt Ideal))
  (fw6 : a6.view.ty.Contents (Elt Ideal)) (fw7 : a7.view.ty.Contents (Elt Ideal)) (fw8 : a8.view.ty.Contents (Elt Ideal))
  (fw9 : a9.view.ty.Contents (Elt Ideal)) (fs0 : Cts (F := Ideal) c cc0_scratch0) (fs1 : Cts (F := Ideal) c cc0_scratch1)

/-- The arrays as the body finds them: operands whole, windows through their views. -/
def kin : KIn where
  X i k := x (ix2 i k)
  W1 i k := w1 (ix2 i k)
  B1 j := a0.view.read (Elt Ideal) fw0 (ix2 0 j)
  W2 i k := w2 (ix2 i k)
  B2 j := a1.view.read (Elt Ideal) fw1 (ix2 0 j)
  DR i k := dr (ix2 i k)
  DB j := a2.view.read (Elt Ideal) fw2 (ix2 0 j)
  CH i k := ch (ix2 i k)
  CB j := a3.view.read (Elt Ideal) fw3 (ix2 0 j)
  WD j := a4.view.read (Elt Ideal) fw4 (ix2 0 j)
  SW j := a5.view.read (Elt Ideal) fw5 (ix2 0 j)
  VW j := a6.view.read (Elt Ideal) fw6 (ix2 0 j)
  SC j := a7.view.read (Elt Ideal) fw7 (ix2 0 j)
  T1 i k := tp1 (ix2 i k)
  TB1 j := a8.view.read (Elt Ideal) fw8 (ix2 0 j)
  T2 i k := tp2 (ix2 i k)
  TB2 j := a9.view.read (Elt Ideal) fw9 (ix2 0 j)

/-- The whole array, read back from its four tiles of rows. -/
theorem v143_at (i : Fin 1024) (j : Fin 4096) : (run0.sl.v143 c x w1 fs0 (ix2 i j) : EReal) = x (ix2 i j) := by
  unfold run0.sl.v143 run0.sl.HS2_4
  exact rows_cov _ (fun i j => x (ix2 i j)) _ _ _ _ (fun i j => (pay1_at _ _ _).trans (v15_at c x fs0 i j)) (fun i j => (pay2_at _ _ _).trans (v31_at c x fs0 i j)) (fun i j => (pay3_at _ _ _).trans (v47_at c x fs0 i j)) (fun i j => (pay4_at _ _ _).trans (v63_at c x w1 fs0 i j)) i j

/-- The whole array, read back from its four tiles of rows. -/
theorem v144_at (i : Fin 1024) (j : Fin 4096) : (run0.sl.v144 c x w1 fs0 (ix2 i j) : EReal) = w1 (ix2 i j) := by
  unfold run0.sl.v144 run0.sl.HS3_4
  exact rows_cov _ (fun i j => w1 (ix2 i j)) _ _ _ _ (fun i j => (pay5_at _ _ _).trans (v79_at c x w1 fs0 i j)) (fun i j => (pay6_at _ _ _).trans (v95_at c x w1 fs0 i j)) (fun i j => (pay7_at _ _ _).trans (v111_at c x w1 fs0 i j)) (fun i j => (pay8_at _ _ _).trans (v122_at c x w1 fs0 i j)) i j

/-- The hidden layer. -/
theorem v156_at (i j : Fin 1024) : (run0.sl.v156 c a0 x w1 fw0 fs0 (ix2 i j) : EReal) = (kin c a0 a1 a2 a5 a6 a8 a3 a4 a7 a9 x w1 w2 dr ch tp1 tp2 fw0 fw1 fw2 fw3 fw4 fw5 fw6 fw7 fw8 fw9).hid i j := by
  unfold run0.sl.v156 run0.sl.HS4_1
  refine (congrFun (View.readCov_cons_toLoadRect _ _ _ _) _).trans ?_
  rw [pay9_at, win_at a0.view 0 _ fw0 j (by omega)]
  simp only [v143_at, v144_at, Nat.zero_add]
  rfl

/-- The reasoning state. -/
theorem v178_at (i j : Fin 1024) : (run0.sl.v178 c a0 a1 x w1 w2 dr ch fw0 fw1 fs0 fs1 (ix2 i j) : EReal) = (kin c a0 a1 a2 a5 a6 a8 a3 a4 a7 a9 x w1 w2 dr ch tp1 tp2 fw0 fw1 fw2 fw3 fw4 fw5 fw6 fw7 fw8 fw9).rs i j := by
  unfold run0.sl.v178 run0.sl.HS5_1
  refine (congrFun (View.readCov_cons_toLoadRect _ _ _ _) _).trans ?_
  rw [pay10_at, win_at a1.view 0 _ fw1 j (by omega)]
  simp only [v156_at c a0 a1 a2 a5 a6 a8 a3 a4 a7 a9 x w1 w2 dr ch tp1 tp2 fw0 fw1 fw2 fw3 fw4 fw5 fw6 fw7 fw8 fw9, v162_at, Nat.zero_add]
  rfl

/-- The reasoning state, rounded. -/
theorem v183_at (i j : Fin 1024) : (run0.sl.v183 c a0 a1 x w1 w2 dr ch fw0 fw1 fs0 fs1 (ix2 i j) : EReal) = (kin c a0 a1 a2 a5 a6 a8 a3 a4 a7 a9 x w1 w2 dr ch tp1 tp2 fw0 fw1 fw2 fw3 fw4 fw5 fw6 fw7 fw8 fw9).rs i j := by
  unfold run0.sl.v183 run0.sl.HS6_1
  refine (congrFun (View.readCov_cons_toLoadRect _ _ _ _) _).trans ?_
  rw [pay11_at]
  exact v178_at c a0 a1 a2 a5 a6 a8 a3 a4 a7 a9 x w1 w2 dr ch tp1 tp2 fw0 fw1 fw2 fw3 fw4 fw5 fw6 fw7 fw8 fw9 _ _ i j

/-- The direction. -/
theorem v291_at (i j : Fin 1024) : (run0.sl.v291 c a0 a1 a2 x w1 w2 dr ch tp1 fw0 fw1 fw2 fs0 fs1 (ix2 i j) : EReal) = (kin c a0 a1 a2 a5 a6 a8 a3 a4 a7 a9 x w1 w2 dr ch tp1 tp2 fw0 fw1 fw2 fw3 fw4 fw5 fw6 fw7 fw8 fw9).dir i j := by
  unfold run0.sl.v291 run0.sl.HS7_1
  refine (congrFun (View.readCov_cons_toLoadRect _ _ _ _) _).trans ?_
  rw [pay12_at, win_at a2.view 0 _ fw2 j (by omega)]
  simp only [v183_at c a0 a1 a2 a5 a6 a8 a3 a4 a7 a9 x w1 w2 dr ch tp1 tp2 fw0 fw1 fw2 fw3 fw4 fw5 fw6 fw7 fw8 fw9, v189_at, Nat.zero_add]
  rfl

/-- The classifier weights. -/
theorem r_at (i : Fin 512) (j : Fin 1024) : (run0.sl.r c w2 dr ch tp1 tp2 fs1 (ix2 i j) : EReal) = ch (ix2 i j) := by
  unfold run0.sl.r
  rw [pay13_at, v211_at]

/-- The difference of the two logits. -/
theorem r1_at (i : Fin 1024) : (run0.sl.r_1 c a0 a1 a3 a4 a7 x w1 w2 dr ch tp1 tp2 fw0 fw1 fw3 fw4 fw7 fs0 fs1 (ix2 i 0) : EReal) = (kin c a0 a1 a2 a5 a6 a8 a3 a4 a7 a9 x w1 w2 dr ch tp1 tp2 fw0 fw1 fw2 fw3 fw4 fw5 fw6 fw7 fw8 fw9).d i := by
  unfold run0.sl.r_1
  rw [pay15_at, win_at a7.view 0 _ fw7 2 (by decide)]
  simp only [win_full a3.view _ fw3, win_full a4.view _ fw4, v183_at c a0 a1 a2 a5 a6 a8 a3 a4 a7 a9 x w1 w2 dr ch tp1 tp2 fw0 fw1 fw2 fw3 fw4 fw5 fw6 fw7 fw8 fw9, r_at, Nat.zero_add]
  rfl

/-- The step size before squashing. -/
theorem r2_at (i : Fin 1024) : (run0.sl.r_2 c a0 a1 a5 a7 x w1 w2 dr ch fw0 fw1 fw5 fw7 fs0 fs1 (ix2 i 0) : EReal) = (kin c a0 a1 a2 a5 a6 a8 a3 a4 a7 a9 x w1 w2 dr ch tp1 tp2 fw0 fw1 fw2 fw3 fw4 fw5 fw6 fw7 fw8 fw9).st i := by
  unfold run0.sl.r_2
  rw [pay16_at, win_at a7.view 0 _ fw7 0 (by decide)]
  simp only [win_full a5.view _ fw5, v178_at c a0 a1 a2 a5 a6 a8 a3 a4 a7 a9 x w1 w2 dr ch tp1 tp2 fw0 fw1 fw2 fw3 fw4 fw5 fw6 fw7 fw8 fw9, Nat.zero_add]
  rfl

/-- The value. -/
theorem r3_at (i : Fin 1024) : (run0.sl.r_3 c a0 a1 a6 a7 x w1 w2 dr ch fw0 fw1 fw6 fw7 fs0 fs1 (ix2 i 0) : EReal) = (kin c a0 a1 a2 a5 a6 a8 a3 a4 a7 a9 x w1 w2 dr ch tp1 tp2 fw0 fw1 fw2 fw3 fw4 fw5 fw6 fw7 fw8 fw9).va i := by
  unfold run0.sl.r_3
  rw [pay17_at, win_at a7.view 0 _ fw7 1 (by decide)]
  simp only [win_full a6.view _ fw6, v178_at c a0 a1 a2 a5 a6 a8 a3 a4 a7 a9 x w1 w2 dr ch tp1 tp2 fw0 fw1 fw2 fw3 fw4 fw5 fw6 fw7 fw8 fw9, Nat.zero_add]
  rfl

/-- The step taken. -/
theorem r7_at (i j : Fin 1024) : (run0.sl.r_7 c a0 a1 a2 a5 a7 x w1 w2 dr ch tp1 fw0 fw1 fw2 fw5 fw7 fs0 fs1 (ix2 i j) : EReal) = stepK ((kin c a0 a1 a2 a5 a6 a8 a3 a4 a7 a9 x w1 w2 dr ch tp1 tp2 fw0 fw1 fw2 fw3 fw4 fw5 fw6 fw7 fw8 fw9).st i) ((kin c a0 a1 a2 a5 a6 a8 a3 a4 a7 a9 x w1 w2 dr ch tp1 tp2 fw0 fw1 fw2 fw3 fw4 fw5 fw6 fw7 fw8 fw9).dir i) j := by
  unfold run0.sl.r_7
  rw [pay21_at]
  simp only [r2_at c a0 a1 a2 a5 a6 a8 a3 a4 a7 a9 x w1 w2 dr ch tp1 tp2 fw0 fw1 fw2 fw3 fw4 fw5 fw6 fw7 fw8 fw9, v291_at c a0 a1 a2 a5 a6 a8 a3 a4 a7 a9 x w1 w2 dr ch tp1 tp2 fw0 fw1 fw2 fw3 fw4 fw5 fw6 fw7 fw8 fw9]

/-- The new position, rounded. -/
theorem v320_at (i j : Fin 1024) : (run0.sl.v320 c a0 a1 a2 a5 a7 x w1 w2 dr ch tp1 fw0 fw1 fw2 fw5 fw7 fs0 fs1 (ix2 i j) : EReal) = (kin c a0 a1 a2 a5 a6 a8 a3 a4 a7 a9 x w1 w2 dr ch tp1 tp2 fw0 fw1 fw2 fw3 fw4 fw5 fw6 fw7 fw8 fw9).np i j := by
  unfold run0.sl.v320 run0.sl.HS6_2
  refine (congrFun (View.readCov_cons_toLoadRect _ _ _ _) _).trans ?_
  rw [pay24_at, v178_at c a0 a1 a2 a5 a6 a8 a3 a4 a7 a9 x w1 w2 dr ch tp1 tp2 fw0 fw1 fw2 fw3 fw4 fw5 fw6 fw7 fw8 fw9, r7_at c a0 a1 a2 a5 a6 a8 a3 a4 a7 a9 x w1 w2 dr ch tp1 tp2 fw0 fw1 fw2 fw3 fw4 fw5 fw6 fw7 fw8 fw9]
  rfl

/-- The first decoder weights. -/
theorem r8_at (i j : Fin 1024) : (run0.sl.r_8 c w2 dr ch tp1 tp2 fs1 (ix2 i j) : EReal) = tp1 (ix2 i j) := by
  unfold run0.sl.r_8
  rw [pay26_at, v326_at]

/-- The decoder's hidden layer. -/
theorem v358_at (i j : Fin 1024) : (run0.sl.v358 c a0 a1 a2 a5 a7 a8 x w1 w2 dr ch tp1 tp2 fw0 fw1 fw2 fw5 fw7 fw8 fs0 fs1 (ix2 i j) : EReal) = (kin c a0 a1 a2 a5 a6 a8 a3 a4 a7 a9 x w1 w2 dr ch tp1 tp2 fw0 fw1 fw2 fw3 fw4 fw5 fw6 fw7 fw8 fw9).lh i j := by
  unfold run0.sl.v358 run0.sl.HS4_2
  refine (congrFun (View.readCov_cons_toLoadRect _ _ _ _) _).trans ?_
  rw [pay27_at, win_at a8.view 0 _ fw8 j (by omega)]
  simp only [v320_at c a0 a1 a2 a5 a6 a8 a3 a4 a7 a9 x w1 w2 dr ch tp1 tp2 fw0 fw1 fw2 fw3 fw4 fw5 fw6 fw7 fw8 fw9, r8_at, Nat.zero_add]
  rfl

/-- The first tile of the decoded latent. -/
theorem tile0_at (i j : Fin 1024) : (k0_pay30 (run0.sl.r_9 c a0 a1 a2 a5 a7 a8 x w1 w2 dr ch tp1 tp2 fw0 fw1 fw2 fw5 fw7 fw8 fs0 fs1) (run0.sl.r_10 c a9 fw9) (ix3 0 i j) : EReal) = (kin c a0 a1 a2 a5 a6 a8 a3 a4 a7 a9 x w1 w2 dr ch tp1 tp2 fw0 fw1 fw2 fw3 fw4 fw5 fw6 fw7 fw8 fw9).la i ⟨j.val, by omega⟩ := by
  unfold run0.sl.r_9 run0.sl.r_10
  rw [pay30_at, pay28_at, pay29_at, win_at a9.view 0 _ fw9 j (by omega)]
  simp only [v358_at c a0 a1 a2 a5 a6 a8 a3 a4 a7 a9 x w1 w2 dr ch tp1 tp2 fw0 fw1 fw2 fw3 fw4 fw5 fw6 fw7 fw8 fw9, v350_at, Nat.zero_add]
  rfl

/-- A tile of the decoded latent. -/
theorem tile1_at (i j : Fin 1024) : (k0_pay31 (run0.sl.v377 c w2 dr ch tp1 tp2 fs1) (run0.sl.v358 c a0 a1 a2 a5 a7 a8 x w1 w2 dr ch tp1 tp2 fw0 fw1 fw2 fw5 fw7 fw8 fs0 fs1) (View.readAt (Elt Ideal) a9.view (Rect.unit (s := S1x4096) ![0, 1024] S1x1024.size inb_S1x4096_S1x1024_0_1024).toLoadRect fw9) (ix3 0 i j) : EReal) = (kin c a0 a1 a2 a5 a6 a8 a3 a4 a7 a9 x w1 w2 dr ch tp1 tp2 fw0 fw1 fw2 fw3 fw4 fw5 fw6 fw7 fw8 fw9).la i ⟨1024 + j.val, by omega⟩ := by
  rw [pay31_at, win_at a9.view 1024 _ fw9 j (by omega)]
  simp only [v358_at c a0 a1 a2 a5 a6 a8 a3 a4 a7 a9 x w1 w2 dr ch tp1 tp2 fw0 fw1 fw2 fw3 fw4 fw5 fw6 fw7 fw8 fw9, v377_at]
  rfl

/-- A tile of the decoded latent. -/
theorem tile2_at (i j : Fin 1024) : (k0_pay32 (run0.sl.v399 c w2 dr ch tp1 tp2 fs1) (run0.sl.v358 c a0 a1 a2 a5 a7 a8 x w1 w2 dr ch tp1 tp2 fw0 fw1 fw2 fw5 fw7 fw8 fs0 fs1) (View.readAt (Elt Ideal) a9.view (Rect.unit (s := S1x4096) ![0, 2048] S1x1024.size inb_S1x4096_S1x1024_0_2048).toLoadRect fw9) (ix3 0 i j) : EReal) = (kin c a0 a1 a2 a5 a6 a8 a3 a4 a7 a9 x w1 w2 dr ch tp1 tp2 fw0 fw1 fw2 fw3 fw4 fw5 fw6 fw7 fw8 fw9).la i ⟨2048 + j.val, by omega⟩ := by
  rw [pay32_at, win_at a9.view 2048 _ fw9 j (by omega)]
  simp only [v358_at c a0 a1 a2 a5 a6 a8 a3 a4 a7 a9 x w1 w2 dr ch tp1 tp2 fw0 fw1 fw2 fw3 fw4 fw5 fw6 fw7 fw8 fw9, v399_at]
  rfl

/-- A tile of the decoded latent. -/
theorem tile3_at (i j : Fin 1024) : (k0_pay33 (run0.sl.v426 c w2 dr ch tp1 tp2 fs1) (run0.sl.v358 c a0 a1 a2 a5 a7 a8 x w1 w2 dr ch tp1 tp2 fw0 fw1 fw2 fw5 fw7 fw8 fs0 fs1) (View.readAt (Elt Ideal) a9.view (Rect.unit (s := S1x4096) ![0, 3072] S1x1024.size inb_S1x4096_S1x1024_0_3072).toLoadRect fw9) (ix3 0 i j) : EReal) = (kin c a0 a1 a2 a5 a6 a8 a3 a4 a7 a9 x w1 w2 dr ch tp1 tp2 fw0 fw1 fw2 fw3 fw4 fw5 fw6 fw7 fw8 fw9).la i ⟨3072 + j.val, by omega⟩ := by
  rw [pay33_at, win_at a9.view 3072 _ fw9 j (by omega)]
  simp only [v358_at c a0 a1 a2 a5 a6 a8 a3 a4 a7 a9 x w1 w2 dr ch tp1 tp2 fw0 fw1 fw2 fw3 fw4 fw5 fw6 fw7 fw8 fw9, v426_at]
  rfl

end

end Cert.KernelIdeal.Hand

end
-- ==== Proof.Finals.lean ====
/- Hand-written. What the body leaves in the three results, over the extended reals. -/
module
public import proofs.«01_k».proof.Proof.Chain
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The new positions, as an array. -/
def G0 (K : KIn) : S1024x1024.Idx → EReal := fun y => K.np (y 0) (y 1)
/-- The packed scalars, as an array: first probability, value, log of the larger probability, entropy. -/
def G1 (K : KIn) : S1024x4.Idx → EReal := fun y =>
  (![Ideal.logistic (K.d (y 0)), K.va (y 0), lpK (K.d (y 0)), entK (K.d (y 0))] : Fin 4 → EReal) (y 1)
/-- The decoded latent, as an array. -/
def G2 (K : KIn) : S1024x4096.Idx → EReal := fun y => K.la (y 0) (y 1)

/-- A buffer read after a store over all of it holds what was stored. -/
theorem top_read {Val : EltTy → Type} {e : EltTy} {k : Kind} {sp : Space} {s : Shape} (v : View sig k sp s e) (r : Rect s) (f : v.ty.Contents Val) (w : r.shape.Idx → Val e)
    (L : List (View.Piece Val s e)) (y : r.shape.Idx) :
    v.read Val (v.writes Val f (⟨r, w⟩ :: L)) (r.emb y) = w y := by
  rw [View.writes_cons]
  exact View.read_slice_write_emb _ _ _ (Finset.mem_univ _)

/-- A slot read after a store over all of it holds what was stored, reshaped. -/
theorem slot_top {Val : EltTy → Type} {e : EltTy} {k : Kind} {sp : Space} {s s' : Shape} (m : Memref sig k sp s e) (r : Rect s) (h) (hs : r.shape.Squeezes s')
    (f : m.view.ty.Contents Val) (w : r.shape.Idx → Val e) (L : List (View.Piece Val s e)) (y : s'.Idx) :
    View.read Val ((m.slice r h).squeeze s' hs).view (m.view.writes Val f (⟨r, w⟩ :: L)) y = w (Shape.reshapeEquiv hs.numel_eq y) := by
  show m.view.read Val (m.view.writes Val f (⟨r, w⟩ :: L)) (r.emb (Shape.reshapeEquiv hs.numel_eq y)) = _
  exact top_read _ _ _ _ _ _

/-- An array filled by four tiles of columns. -/
theorem cols_cov {sp : Space} (v : View sig .tc sp S1024x4096 .f32) (f : v.ty.Contents (Elt Ideal)) (G : Fin 1024 → Fin 4096 → EReal) (p0 p1 p2 p3 : FVec Ideal S1024x1024 .f32)
    (h0 : ∀ (i j : Fin 1024), p0 (ix2 i j) = G i ⟨j.val, by omega⟩)
    (h1 : ∀ (i j : Fin 1024), p1 (ix2 i j) = G i ⟨1024 + j.val, by omega⟩)
    (h2 : ∀ (i j : Fin 1024), p2 (ix2 i j) = G i ⟨2048 + j.val, by omega⟩)
    (h3 : ∀ (i j : Fin 1024), p3 (ix2 i j) = G i ⟨3072 + j.val, by omega⟩) (i : Fin 1024) (j : Fin 4096) :
    v.read (Elt Ideal) (v.writes (Elt Ideal) f [⟨Rect.unit ![0, 3072] S1024x1024.size inb_S1024x4096_S1024x1024_0_3072, p3⟩, ⟨Rect.unit ![0, 2048] S1024x1024.size inb_S1024x4096_S1024x1024_0_2048, p2⟩,
      ⟨Rect.unit ![0, 1024] S1024x1024.size inb_S1024x4096_S1024x1024_0_1024, p1⟩, ⟨Rect.unit ![0, 0] S1024x1024.size inb_S1024x4096_S1024x1024_0_0, p0⟩]) (ix2 i j) = G i j := by
  refine (View.read_writes_apply_of_pieces (Val := Elt Ideal) (e := .f32) (s := S1024x4096) v f (fun y => G (y 0) (y 1)) _ ?_ (ix2 i j) ?_)
  · intro p hp
    simp only [List.mem_cons, List.mem_nil_iff, or_false] at hp
    have eG : ∀ {a a' : Fin 1024} {b b' : Fin 4096}, a.val = a'.val → b.val = b'.val → G a b = G a' b' := fun ha hb => by rw [Fin.ext ha, Fin.ext hb]
    rcases hp with rfl | rfl | rfl | rfl
    · intro (y : S1024x1024.Idx)
      obtain ⟨a, b, rfl⟩ : ∃ a b, y = ix2 a b := ⟨_, _, eq_ix2 y⟩
      exact (h3 a b).trans (eG (by show a.val = 0 + 1 * a.val; omega) (by show 3072 + b.val = 3072 + 1 * b.val; omega))
    · intro (y : S1024x1024.Idx)
      obtain ⟨a, b, rfl⟩ : ∃ a b, y = ix2 a b := ⟨_, _, eq_ix2 y⟩
      exact (h2 a b).trans (eG (by show a.val = 0 + 1 * a.val; omega) (by show 2048 + b.val = 2048 + 1 * b.val; omega))
    · intro (y : S1024x1024.Idx)
      obtain ⟨a, b, rfl⟩ : ∃ a b, y = ix2 a b := ⟨_, _, eq_ix2 y⟩
      exact (h1 a b).trans (eG (by show a.val = 0 + 1 * a.val; omega) (by show 1024 + b.val = 1024 + 1 * b.val; omega))
    · intro (y : S1024x1024.Idx)
      obtain ⟨a, b, rfl⟩ : ∃ a b, y = ix2 a b := ⟨_, _, eq_ix2 y⟩
      exact (h0 a b).trans (eG (by show a.val = 0 + 1 * a.val; omega) (by show b.val = 0 + 1 * b.val; omega))
  · have hi := i.isLt
    have hj := j.isLt
    by_cases h3 : 3072 ≤ j.val
    · refine ⟨_, .head _, ?_⟩
      exact (Rect.mem_set_unit (inb := inb_S1024x4096_S1024x1024_0_3072)).mpr (fun a => by match a with
        | ⟨0, _⟩ => exact ⟨Nat.zero_le _, by show i.val < 0 + 1024; omega⟩
        | ⟨1, _⟩ => exact ⟨h3, by show j.val < 3072 + 1024; omega⟩)
    by_cases h2 : 2048 ≤ j.val
    · refine ⟨_, .tail _ (.head _), ?_⟩
      exact (Rect.mem_set_unit (inb := inb_S1024x4096_S1024x1024_0_2048)).mpr (fun a => by match a with
        | ⟨0, _⟩ => exact ⟨Nat.zero_le _, by show i.val < 0 + 1024; omega⟩
        | ⟨1, _⟩ => exact ⟨h2, by show j.val < 2048 + 1024; omega⟩)
    by_cases h1 : 1024 ≤ j.val
    · refine ⟨_, .tail _ (.tail _ (.head _)), ?_⟩
      exact (Rect.mem_set_unit (inb := inb_S1024x4096_S1024x1024_0_1024)).mpr (fun a => by match a with
        | ⟨0, _⟩ => exact ⟨Nat.zero_le _, by show i.val < 0 + 1024; omega⟩
        | ⟨1, _⟩ => exact ⟨h1, by show j.val < 1024 + 1024; omega⟩)
    · refine ⟨_, .tail _ (.tail _ (.tail _ (.head _))), ?_⟩
      exact (Rect.mem_set_unit (inb := inb_S1024x4096_S1024x1024_0_0)).mpr (fun a => by match a with
        | ⟨0, _⟩ => exact ⟨Nat.zero_le _, by show i.val < 0 + 1024; omega⟩
        | ⟨1, _⟩ => exact ⟨Nat.zero_le _, by show j.val < 0 + 1024; omega⟩)

section
variable (c : Dev nD) (a0 a1 a2 a5 a6 a8 : Memref sig .tc .vmem S1x1024 .f32) (a3 a4 : Memref sig .tc .vmem S1x512 .f32)
  (a7 : Memref sig .tc .vmem S1x3 .f32) (a9 : Memref sig .tc .vmem S1x4096 .f32)
  (x : Cts (F := Ideal) c main_arg0) (w1 : Cts (F := Ideal) c main_arg2) (w2 : Cts (F := Ideal) c main_arg4)
  (dr : Cts (F := Ideal) c main_arg14) (ch : Cts (F := Ideal) c main_arg10) (tp1 : Cts (F := Ideal) c main_arg6) (tp2 : Cts (F := Ideal) c main_arg8)
  (fw0 : a0.view.ty.Contents (Elt Ideal)) (fw1 : a1.view.ty.Contents (Elt Ideal)) (fw2 : a2.view.ty.Contents (Elt Ideal))
  (fw3 : a3.view.ty.Contents (Elt Ideal)) (fw4 : a4.view.ty.Contents (Elt Ideal)) (fw5 : a5.view.ty.Contents (Elt Ideal))
  (fw6 : a6.view.ty.Contents (Elt Ideal)) (fw7 : a7.view.ty.Contents (Elt Ideal)) (fw8 : a8.view.ty.Contents (Elt Ideal))
  (fw9 : a9.view.ty.Contents (Elt Ideal)) (fs0 : Cts (F := Ideal) c cc0_scratch0) (fs1 : Cts (F := Ideal) c cc0_scratch1)
  (fs5 : Cts (F := Ideal) c cc0_scratch5) (fs8 : Cts (F := Ideal) c cc0_scratch8) (fs9 : Cts (F := Ideal) c cc0_scratch9)
  (fo0 : Cts (F := Ideal) c main_v30_0) (fo1 : Cts (F := Ideal) c main_v30_1) (fo2 : Cts (F := Ideal) c main_v30_2)

/-- A finished tile of the latent, as it is copied out. -/
theorem dma67_at (i j : Fin 1024) : (run0.sl.dma67 c a0 a1 a2 a5 a7 a8 a9 x w1 w2 dr ch tp1 tp2 fw0 fw1 fw2 fw5 fw7 fw8 fw9 fs0 fs1 fs8 (ix2 i j) : EReal) = (kin c a0 a1 a2 a5 a6 a8 a3 a4 a7 a9 x w1 w2 dr ch tp1 tp2 fw0 fw1 fw2 fw3 fw4 fw5 fw6 fw7 fw8 fw9).la i ⟨j.val, by omega⟩ := by
  unfold run0.sl.dma67 run0.sl.HS8_1
  refine (slot_top _ _ _ _ _ _ _ _).trans ?_
  refine Eq.trans (congrArg _ ?_) (tile0_at c a0 a1 a2 a5 a6 a8 a3 a4 a7 a9 x w1 w2 dr ch tp1 tp2 fw0 fw1 fw2 fw3 fw4 fw5 fw6 fw7 fw8 fw9 fs0 fs1 i j)
  pointwise

/-- A finished tile of the latent, as it is copied out. -/
theorem dma72_at (i j : Fin 1024) : (run0.sl.dma72 c a0 a1 a2 a5 a7 a8 a9 x w1 w2 dr ch tp1 tp2 fw0 fw1 fw2 fw5 fw7 fw8 fw9 fs0 fs1 fs8 (ix2 i j) : EReal) = (kin c a0 a1 a2 a5 a6 a8 a3 a4 a7 a9 x w1 w2 dr ch tp1 tp2 fw0 fw1 fw2 fw3 fw4 fw5 fw6 fw7 fw8 fw9).la i ⟨1024 + j.val, by omega⟩ := by
  unfold run0.sl.dma72 run0.sl.HS8_2
  refine (slot_top _ _ _ _ _ _ _ _).trans ?_
  refine Eq.trans (congrArg _ ?_) (tile1_at c a0 a1 a2 a5 a6 a8 a3 a4 a7 a9 x w1 w2 dr ch tp1 tp2 fw0 fw1 fw2 fw3 fw4 fw5 fw6 fw7 fw8 fw9 fs0 fs1 i j)
  pointwise

/-- A finished tile of the latent, as it is copied out. -/
theorem dma77_at (i j : Fin 1024) : (run0.sl.dma77 c a0 a1 a2 a5 a7 a8 a9 x w1 w2 dr ch tp1 tp2 fw0 fw1 fw2 fw5 fw7 fw8 fw9 fs0 fs1 fs8 (ix2 i j) : EReal) = (kin c a0 a1 a2 a5 a6 a8 a3 a4 a7 a9 x w1 w2 dr ch tp1 tp2 fw0 fw1 fw2 fw3 fw4 fw5 fw6 fw7 fw8 fw9).la i ⟨2048 + j.val, by omega⟩ := by
  unfold run0.sl.dma77 run0.sl.HS8_3
  refine (slot_top _ _ _ _ _ _ _ _).trans ?_
  refine Eq.trans (congrArg _ ?_) (tile2_at c a0 a1 a2 a5 a6 a8 a3 a4 a7 a9 x w1 w2 dr ch tp1 tp2 fw0 fw1 fw2 fw3 fw4 fw5 fw6 fw7 fw8 fw9 fs0 fs1 i j)
  pointwise

/-- A finished tile of the latent, as it is copied out. -/
theorem dma82_at (i j : Fin 1024) : (run0.sl.dma82 c a0 a1 a2 a5 a7 a8 a9 x w1 w2 dr ch tp1 tp2 fw0 fw1 fw2 fw5 fw7 fw8 fw9 fs0 fs1 fs8 (ix2 i j) : EReal) = (kin c a0 a1 a2 a5 a6 a8 a3 a4 a7 a9 x w1 w2 dr ch tp1 tp2 fw0 fw1 fw2 fw3 fw4 fw5 fw6 fw7 fw8 fw9).la i ⟨3072 + j.val, by omega⟩ := by
  unfold run0.sl.dma82 run0.sl.HS8_4
  refine (slot_top _ _ _ _ _ _ _ _).trans ?_
  refine Eq.trans (congrArg _ ?_) (tile3_at c a0 a1 a2 a5 a6 a8 a3 a4 a7 a9 x w1 w2 dr ch tp1 tp2 fw0 fw1 fw2 fw3 fw4 fw5 fw6 fw7 fw8 fw9 fs0 fs1 i j)
  pointwise

/-- The latent, from its four tiles. -/
theorem lat_cov (p0 p1 p2 p3 : FVec Ideal S1024x1024 .f32) (K : KIn)
    (h0 : ∀ (i j : Fin 1024), p0 (ix2 i j) = K.la i ⟨j.val, by omega⟩)
    (h1 : ∀ (i j : Fin 1024), p1 (ix2 i j) = K.la i ⟨1024 + j.val, by omega⟩)
    (h2 : ∀ (i j : Fin 1024), p2 (ix2 i j) = K.la i ⟨2048 + j.val, by omega⟩)
    (h3 : ∀ (i j : Fin 1024), p3 (ix2 i j) = K.la i ⟨3072 + j.val, by omega⟩) :
    (Memref.whole main_v30_2).view.writes (Elt Ideal) fo2 [⟨Rect.unit ![0, 3072] S1024x1024.size inb_S1024x4096_S1024x1024_0_3072, p3⟩, ⟨Rect.unit ![0, 2048] S1024x1024.size inb_S1024x4096_S1024x1024_0_2048, p2⟩, ⟨Rect.unit ![0, 1024] S1024x1024.size inb_S1024x4096_S1024x1024_0_1024, p1⟩, ⟨Rect.unit ![0, 0] S1024x1024.size inb_S1024x4096_S1024x1024_0_0, p0⟩] = G2 K := by
  funext (y : S1024x4096.Idx)
  obtain ⟨i, j, rfl⟩ : ∃ i j, y = ix2 i j := ⟨_, _, eq_ix2 y⟩
  refine Eq.trans ?_ (show K.la i j = G2 K (ix2 i j) from rfl)
  refine (congrFun (View.read_whole main_v30_2 _) (ix2 i j)).symm.trans ?_
  exact cols_cov (Memref.whole main_v30_2).view fo2 K.la p0 p1 p2 p3 h0 h1 h2 h3 i j

/-- The latent, as it is left. -/
theorem fin2 : (Memref.whole main_v30_2).view.writes (Elt Ideal) fo2
      [⟨Rect.unit ![0, 3072] S1024x1024.size inb_S1024x4096_S1024x1024_0_3072, run0.sl.dma82 c a0 a1 a2 a5 a7 a8 a9 x w1 w2 dr ch tp1 tp2 fw0 fw1 fw2 fw5 fw7 fw8 fw9 fs0 fs1 fs8⟩, ⟨Rect.unit ![0, 2048] S1024x1024.size inb_S1024x4096_S1024x1024_0_2048, run0.sl.dma77 c a0 a1 a2 a5 a7 a8 a9 x w1 w2 dr ch tp1 tp2 fw0 fw1 fw2 fw5 fw7 fw8 fw9 fs0 fs1 fs8⟩, ⟨Rect.unit ![0, 1024] S1024x1024.size inb_S1024x4096_S1024x1024_0_1024, run0.sl.dma72 c a0 a1 a2 a5 a7 a8 a9 x w1 w2 dr ch tp1 tp2 fw0 fw1 fw2 fw5 fw7 fw8 fw9 fs0 fs1 fs8⟩, ⟨Rect.unit ![0, 0] S1024x1024.size inb_S1024x4096_S1024x1024_0_0, run0.sl.dma67 c a0 a1 a2 a5 a7 a8 a9 x w1 w2 dr ch tp1 tp2 fw0 fw1 fw2 fw5 fw7 fw8 fw9 fs0 fs1 fs8⟩] = G2 (kin c a0 a1 a2 a5 a6 a8 a3 a4 a7 a9 x w1 w2 dr ch tp1 tp2 fw0 fw1 fw2 fw3 fw4 fw5 fw6 fw7 fw8 fw9) := by
  exact lat_cov c fo2 _ _ _ _ (kin c a0 a1 a2 a5 a6 a8 a3 a4 a7 a9 x w1 w2 dr ch tp1 tp2 fw0 fw1 fw2 fw3 fw4 fw5 fw6 fw7 fw8 fw9) (dma67_at c a0 a1 a2 a5 a6 a8 a3 a4 a7 a9 x w1 w2 dr ch tp1 tp2 fw0 fw1 fw2 fw3 fw4 fw5 fw6 fw7 fw8 fw9 fs0 fs1 fs8) (dma72_at c a0 a1 a2 a5 a6 a8 a3 a4 a7 a9 x w1 w2 dr ch tp1 tp2 fw0 fw1 fw2 fw3 fw4 fw5 fw6 fw7 fw8 fw9 fs0 fs1 fs8)
    (dma77_at c a0 a1 a2 a5 a6 a8 a3 a4 a7 a9 x w1 w2 dr ch tp1 tp2 fw0 fw1 fw2 fw3 fw4 fw5 fw6 fw7 fw8 fw9 fs0 fs1 fs8) (dma82_at c a0 a1 a2 a5 a6 a8 a3 a4 a7 a9 x w1 w2 dr ch tp1 tp2 fw0 fw1 fw2 fw3 fw4 fw5 fw6 fw7 fw8 fw9 fs0 fs1 fs8)

/-- The new positions, as they are left. -/
theorem fin0 : View.write (Elt Ideal) (Memref.whole main_v30_0).view fo0 (run0.sl.dma55 c a0 a1 a2 a5 a7 x w1 w2 dr ch tp1 fw0 fw1 fw2 fw5 fw7 fs0 fs1 fs5) Finset.univ = G0 (kin c a0 a1 a2 a5 a6 a8 a3 a4 a7 a9 x w1 w2 dr ch tp1 tp2 fw0 fw1 fw2 fw3 fw4 fw5 fw6 fw7 fw8 fw9) := by
  refine (View.write_whole_univ main_v30_0 _ _).trans ?_
  funext (y : S1024x1024.Idx)
  obtain ⟨i, j, rfl⟩ : ∃ i j, y = ix2 i j := ⟨_, _, eq_ix2 y⟩
  unfold run0.sl.dma55 run0.sl.HS5_2
  have hy : (ix2 i j : S1024x1024.Idx) = (Rect.unit (s := S1024x1024) ![0, 0] S1024x1024.size inb_S1024x1024_S1024x1024_0_0).emb (ix2 i j) :=
    idx2_ext (by show i.val = 0 + 1 * i.val; omega) (by show j.val = 0 + 1 * j.val; omega)
  refine Eq.trans (congrArg _ hy) ?_
  refine (top_read _ _ _ _ _ _).trans ?_
  rw [pay23_at, v178_at c a0 a1 a2 a5 a6 a8 a3 a4 a7 a9 x w1 w2 dr ch tp1 tp2 fw0 fw1 fw2 fw3 fw4 fw5 fw6 fw7 fw8 fw9, r7_at c a0 a1 a2 a5 a6 a8 a3 a4 a7 a9 x w1 w2 dr ch tp1 tp2 fw0 fw1 fw2 fw3 fw4 fw5 fw6 fw7 fw8 fw9]
  rfl

/-- The packed scalars, as they are left. -/
theorem fin1 : View.write (Elt Ideal) (Memref.whole main_v30_1).view fo1 (run0.sl.dma57 c a0 a1 a3 a4 a6 a7 x w1 w2 dr ch tp1 tp2 fw0 fw1 fw3 fw4 fw6 fw7 fs0 fs1 fs9) Finset.univ = G1 (kin c a0 a1 a2 a5 a6 a8 a3 a4 a7 a9 x w1 w2 dr ch tp1 tp2 fw0 fw1 fw2 fw3 fw4 fw5 fw6 fw7 fw8 fw9) := by
  refine (View.write_whole_univ main_v30_1 _ _).trans ?_
  funext (y : S1024x4.Idx)
  obtain ⟨i, j, rfl⟩ : ∃ i j, y = ix2 i j := ⟨_, _, eq_ix2 y⟩
  unfold run0.sl.dma57 run0.sl.HS9_1
  have hy : (ix2 i j : S1024x4.Idx) = (Rect.unit (s := S1024x4) ![0, 0] S1024x4.size inb_S1024x4_S1024x4_0_0).emb (ix2 i j) :=
    idx2_ext (by show i.val = 0 + 1 * i.val; omega) (by show j.val = 0 + 1 * j.val; omega)
  refine Eq.trans (congrArg _ hy) ?_
  refine (top_read _ _ _ _ _ _).trans ?_
  fin_cases j
  · refine (pay25_0 _ _ _ _ i).trans ?_
    unfold run0.sl.r_4
    rw [pay18_at, r1_at c a0 a1 a2 a5 a6 a8 a3 a4 a7 a9 x w1 w2 dr ch tp1 tp2 fw0 fw1 fw2 fw3 fw4 fw5 fw6 fw7 fw8 fw9]
    rfl
  · refine (pay25_1 _ _ _ _ i).trans ?_
    rw [r3_at c a0 a1 a2 a5 a6 a8 a3 a4 a7 a9 x w1 w2 dr ch tp1 tp2 fw0 fw1 fw2 fw3 fw4 fw5 fw6 fw7 fw8 fw9]
    rfl
  · refine (pay25_2 _ _ _ _ i).trans ?_
    unfold run0.sl.r_6
    rw [pay20_at, r1_at c a0 a1 a2 a5 a6 a8 a3 a4 a7 a9 x w1 w2 dr ch tp1 tp2 fw0 fw1 fw2 fw3 fw4 fw5 fw6 fw7 fw8 fw9]
    rfl
  · refine (pay25_3 _ _ _ _ i).trans ?_
    unfold run0.sl.r_5
    rw [pay19_at, r1_at c a0 a1 a2 a5 a6 a8 a3 a4 a7 a9 x w1 w2 dr ch tp1 tp2 fw0 fw1 fw2 fw3 fw4 fw5 fw6 fw7 fw8 fw9]
    rfl

end

end Cert.KernelIdeal.Hand

end
-- ==== Proof.RunV.lean ====
/- Hand-written. One run of the kernel body, from whole buffers, as a triple. -/
module

public import proofs.«01_k».proof.Proof.Gen.KernelIdeal.Launch
public import proofs.«01_k».proof.Proof.Gen.KernelIdeal.Skeleton
public import proofs.«01_k».proof.Proof.Finals
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The proof's algebra: the pipeline's own beside the transfers' counters. -/
local notation "𝕄" => MT nD τ sig Unit (Elt Ideal) ℕ (Pipeline.UD sig nD τ) ℕ

/-- The arrays that the body reads, out of its windows and its operands. -/
def kinB {c : Dev nD} (b0 b1 b2 : Vec Ideal S1x1024 .f32) (b3 b4 : Vec Ideal S1x512 .f32) (b5 b6 : Vec Ideal S1x1024 .f32) (b7 : Vec Ideal S1x3 .f32)
    (b8 : Vec Ideal S1x1024 .f32) (b9 : Vec Ideal S1x4096 .f32)
    (x : Cts (F := Ideal) c main_arg0) (w1 : Cts (F := Ideal) c main_arg2) (w2 : Cts (F := Ideal) c main_arg4)
    (dr : Cts (F := Ideal) c main_arg14) (ch : Cts (F := Ideal) c main_arg10) (tp1 : Cts (F := Ideal) c main_arg6) (tp2 : Cts (F := Ideal) c main_arg8) : KIn where
  X i k := x (ix2 i k)
  W1 i k := w1 (ix2 i k)
  B1 j := b0 (ix2 0 j)
  W2 i k := w2 (ix2 i k)
  B2 j := b1 (ix2 0 j)
  DR i k := dr (ix2 i k)
  DB j := b2 (ix2 0 j)
  CH i k := ch (ix2 i k)
  CB j := b3 (ix2 0 j)
  WD j := b4 (ix2 0 j)
  SW j := b5 (ix2 0 j)
  VW j := b6 (ix2 0 j)
  SC j := b7 (ix2 0 j)
  T1 i k := tp1 (ix2 i k)
  TB1 j := b8 (ix2 0 j)
  T2 i k := tp2 (ix2 i k)
  TB2 j := b9 (ix2 0 j)

set_option sl_exec.dmaWindow true in
set_option sl_exec.dmaWindowLent true in
set_option maxHeartbeats 8000000 in
/-- The kernel's body, run from the ten windows, the ten scratches, the nine own semaphores at zero, the seven operands it copies
    from itself and the three results: everything comes back, the semaphores at zero, the operands as they were, the results at their values. -/
theorem runV (c : Dev nD) (a0 : Memref sig .tc .vmem S1x1024 .f32) (ha0 : a0.IsWhole) (a1 : Memref sig .tc .vmem S1x1024 .f32) (ha1 : a1.IsWhole) (a2 : Memref sig .tc .vmem S1x1024 .f32) (ha2 : a2.IsWhole) (a3 : Memref sig .tc .vmem S1x512 .f32) (ha3 : a3.IsWhole) (a4 : Memref sig .tc .vmem S1x512 .f32) (ha4 : a4.IsWhole) (a5 : Memref sig .tc .vmem S1x1024 .f32) (ha5 : a5.IsWhole) (a6 : Memref sig .tc .vmem S1x1024 .f32) (ha6 : a6.IsWhole) (a7 : Memref sig .tc .vmem S1x3 .f32) (ha7 : a7.IsWhole) (a8 : Memref sig .tc .vmem S1x1024 .f32) (ha8 : a8.IsWhole) (a9 : Memref sig .tc .vmem S1x4096 .f32) (ha9 : a9.IsWhole)
  (b0 : Vec Ideal S1x1024 .f32) (b1 : Vec Ideal S1x1024 .f32) (b2 : Vec Ideal S1x1024 .f32) (b3 : Vec Ideal S1x512 .f32) (b4 : Vec Ideal S1x512 .f32) (b5 : Vec Ideal S1x1024 .f32) (b6 : Vec Ideal S1x1024 .f32) (b7 : Vec Ideal S1x3 .f32) (b8 : Vec Ideal S1x1024 .f32) (b9 : Vec Ideal S1x4096 .f32)
  (x : Cts (F := Ideal) c main_arg0) (w1 : Cts (F := Ideal) c main_arg2) (w2 : Cts (F := Ideal) c main_arg4) (dr : Cts (F := Ideal) c main_arg14) (ch : Cts (F := Ideal) c main_arg10) (tp1 : Cts (F := Ideal) c main_arg6) (tp2 : Cts (F := Ideal) c main_arg8) (W : Waits sig Unit) (K : PUnit → sProp 𝕄) :
  iprop(owns (c : Thread nD τ) a0 fullShare b0
    ∗ owns (c : Thread nD τ) a1 fullShare b1
    ∗ owns (c : Thread nD τ) a2 fullShare b2
    ∗ owns (c : Thread nD τ) a3 fullShare b3
    ∗ owns (c : Thread nD τ) a4 fullShare b4
    ∗ owns (c : Thread nD τ) a5 fullShare b5
    ∗ owns (c : Thread nD τ) a6 fullShare b6
    ∗ owns (c : Thread nD τ) a7 fullShare b7
    ∗ owns (c : Thread nD τ) a8 fullShare b8
    ∗ owns (c : Thread nD τ) a9 fullShare b9
    ∗ (∃ f, pt (F := Ideal) c cc0_scratch0 f)
    ∗ (∃ f, pt (F := Ideal) c cc0_scratch1 f)
    ∗ (∃ f, pt (F := Ideal) c cc0_scratch2 f)
    ∗ (∃ f, pt (F := Ideal) c cc0_scratch3 f)
    ∗ (∃ f, pt (F := Ideal) c cc0_scratch4 f)
    ∗ (∃ f, pt (F := Ideal) c cc0_scratch5 f)
    ∗ (∃ f, pt (F := Ideal) c cc0_scratch6 f)
    ∗ (∃ f, pt (F := Ideal) c cc0_scratch7 f)
    ∗ (∃ f, pt (F := Ideal) c cc0_scratch8 f)
    ∗ (∃ f, pt (F := Ideal) c cc0_scratch9 f)
    ∗ semVal ((c : Thread nD τ), SemLoc.dma 10) 0
    ∗ semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ pt c main_arg0 x
    ∗ pt c main_arg2 w1
    ∗ pt c main_arg4 w2
    ∗ pt c main_arg14 dr
    ∗ pt c main_arg10 ch
    ∗ pt c main_arg6 tp1
    ∗ pt c main_arg8 tp2
    ∗ (∃ f, pt (F := Ideal) c main_v30_0 f)
    ∗ (∃ f, pt (F := Ideal) c main_v30_1 f)
    ∗ (∃ f, pt (F := Ideal) c main_v30_2 f)
    ∗ owes (c : Thread nD τ) 0 W
    ∗ (iprop(owns (c : Thread nD τ) a0 fullShare b0
      ∗ owns (c : Thread nD τ) a1 fullShare b1
      ∗ owns (c : Thread nD τ) a2 fullShare b2
      ∗ owns (c : Thread nD τ) a3 fullShare b3
      ∗ owns (c : Thread nD τ) a4 fullShare b4
      ∗ owns (c : Thread nD τ) a5 fullShare b5
      ∗ owns (c : Thread nD τ) a6 fullShare b6
      ∗ owns (c : Thread nD τ) a7 fullShare b7
      ∗ owns (c : Thread nD τ) a8 fullShare b8
      ∗ owns (c : Thread nD τ) a9 fullShare b9
      ∗ (∃ f, pt (F := Ideal) c cc0_scratch0 f)
      ∗ (∃ f, pt (F := Ideal) c cc0_scratch1 f)
      ∗ (∃ f, pt (F := Ideal) c cc0_scratch2 f)
      ∗ (∃ f, pt (F := Ideal) c cc0_scratch3 f)
      ∗ (∃ f, pt (F := Ideal) c cc0_scratch4 f)
      ∗ (∃ f, pt (F := Ideal) c cc0_scratch5 f)
      ∗ (∃ f, pt (F := Ideal) c cc0_scratch6 f)
      ∗ (∃ f, pt (F := Ideal) c cc0_scratch7 f)
      ∗ (∃ f, pt (F := Ideal) c cc0_scratch8 f)
      ∗ (∃ f, pt (F := Ideal) c cc0_scratch9 f)
      ∗ semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ pt c main_arg0 x
      ∗ pt c main_arg2 w1
      ∗ pt c main_arg4 w2
      ∗ pt c main_arg14 dr
      ∗ pt c main_arg10 ch
      ∗ pt c main_arg6 tp1
      ∗ pt c main_arg8 tp2
      ∗ (∃ f, pt (F := Ideal) c main_v30_0 f ∗ ⌜f = G0 (kinB b0 b1 b2 b3 b4 b5 b6 b7 b8 b9 x w1 w2 dr ch tp1 tp2)⌝)
      ∗ (∃ f, pt (F := Ideal) c main_v30_1 f ∗ ⌜f = G1 (kinB b0 b1 b2 b3 b4 b5 b6 b7 b8 b9 x w1 w2 dr ch tp1 tp2)⌝)
      ∗ (∃ f, pt (F := Ideal) c main_v30_2 f ∗ ⌜f = G2 (kinB b0 b1 b2 b3 b4 b5 b6 b7 b8 b9 x w1 w2 dr ch tp1 tp2)⌝)
      ∗ (∃ W', owes (c : Thread nD τ) 0 W')) -∗ K ⟨⟩))
  ⊢ wp frame (wpE (defs₀ (F := Ideal)) Variants.none c none) Set.univ (cc0__fused (Memref.whole main_arg0) (Memref.isWhole_whole _) (Memref.whole main_arg2) (Memref.isWhole_whole _) (Memref.whole main_arg4) (Memref.isWhole_whole _) (Memref.whole main_arg14) (Memref.isWhole_whole _) (Memref.whole main_arg10) (Memref.isWhole_whole _) (Memref.whole main_arg6) (Memref.isWhole_whole _) (Memref.whole main_arg8) (Memref.isWhole_whole _) a0 ha0 a1 ha1 a2 ha2 a3 ha3 a4 ha4 a5 ha5 a6 ha6 a7 ha7 a8 ha8 a9 ha9 (Memref.whole main_v30_0) (Memref.isWhole_whole _) (Memref.whole main_v30_1) (Memref.isWhole_whole _) (Memref.whole main_v30_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) K := by
  simp only [cc0__fused_eq_skeleton]; unfold cc0__fused_skel
  unfold owns
  iintro ⟨⟨%fw0, %hw0, HB0⟩, ⟨%fw1, %hw1, HB1⟩, ⟨%fw2, %hw2, HB2⟩, ⟨%fw3, %hw3, HB3⟩, ⟨%fw4, %hw4, HB4⟩, ⟨%fw5, %hw5, HB5⟩, ⟨%fw6, %hw6, HB6⟩, ⟨%fw7, %hw7, HB7⟩, ⟨%fw8, %hw8, HB8⟩, ⟨%fw9, %hw9, HB9⟩, ⟨%fs0, HS0⟩, ⟨%fs1, HS1⟩, ⟨%fs2, HS2⟩, ⟨%fs3, HS3⟩, ⟨%fs4, HS4⟩, ⟨%fs5, HS5⟩, ⟨%fs6, HS6⟩, ⟨%fs7, HS7⟩, ⟨%fs8, HS8⟩, ⟨%fs9, HS9⟩, Hq10, Hq11, Hq12, Hq13, Hq14, Hq15, Hq16, Hq17, Hq18, Hx_x, Hx_w1, Hx_w2, Hx_dr, Hx_ch, Hx_tp1, Hx_tp2, ⟨%fo0, HO0⟩, ⟨%fo1, HO1⟩, ⟨%fo2, HO2⟩, HW, Hk⟩
  subst hw0 hw1 hw2 hw3 hw4 hw5 hw6 hw7 hw8 hw9
  unfold pt
  sl_exec
  sl_step
  iapply Hk
  isplitl [HB0]
  · iexists fw0; isplitr
    · ipureintro; rfl
    · iexact HB0
  isplitl [HB1]
  · iexists fw1; isplitr
    · ipureintro; rfl
    · iexact HB1
  isplitl [HB2]
  · iexists fw2; isplitr
    · ipureintro; rfl
    · iexact HB2
  isplitl [HB3]
  · iexists fw3; isplitr
    · ipureintro; rfl
    · iexact HB3
  isplitl [HB4]
  · iexists fw4; isplitr
    · ipureintro; rfl
    · iexact HB4
  isplitl [HB5]
  · iexists fw5; isplitr
    · ipureintro; rfl
    · iexact HB5
  isplitl [HB6]
  · iexists fw6; isplitr
    · ipureintro; rfl
    · iexact HB6
  isplitl [HB7]
  · iexists fw7; isplitr
    · ipureintro; rfl
    · iexact HB7
  isplitl [HB8]
  · iexists fw8; isplitr
    · ipureintro; rfl
    · iexact HB8
  isplitl [HB9]
  · iexists fw9; isplitr
    · ipureintro; rfl
    · iexact HB9
  isplitl [HS0]
  · iexists _; iexact HS0
  isplitl [HS1]
  · iexists _; iexact HS1
  isplitl [HS2]
  · iexists _; iexact HS2
  isplitl [HS3]
  · iexists _; iexact HS3
  isplitl [HS4]
  · iexists _; iexact HS4
  isplitl [HS5]
  · iexists _; iexact HS5
  isplitl [HS6]
  · iexists _; iexact HS6
  isplitl [HS7]
  · iexists _; iexact HS7
  isplitl [HS8]
  · iexists _; iexact HS8
  isplitl [HS9]
  · iexists _; iexact HS9
  isplitl [Hq10]
  · iexact Hq10
  isplitl [Hq11]
  · iexact Hq11
  isplitl [Hq12]
  · iexact Hq12
  isplitl [Hq13]
  · iexact Hq13
  isplitl [Hq14]
  · iexact Hq14
  isplitl [Hq15]
  · iexact Hq15
  isplitl [Hq16]
  · iexact Hq16
  isplitl [Hq17]
  · iexact Hq17
  isplitl [Hq18]
  · iexact Hq18
  isplitl [Hx_x]
  · iexact Hx_x
  isplitl [Hx_w1]
  · iexact Hx_w1
  isplitl [Hx_w2]
  · iexact Hx_w2
  isplitl [Hx_dr]
  · iexact Hx_dr
  isplitl [Hx_ch]
  · iexact Hx_ch
  isplitl [Hx_tp1]
  · iexact Hx_tp1
  isplitl [Hx_tp2]
  · iexact Hx_tp2
  isplitl [HO0]
  · iexists _; isplitl [HO0]
    · iexact HO0
    · ipureintro; exact fin0 c a0 a1 a2 a5 a6 a8 a3 a4 a7 a9 x w1 w2 dr ch tp1 tp2 fw0 fw1 fw2 fw3 fw4 fw5 fw6 fw7 fw8 fw9 fs0 fs1 fs5 fo0
  isplitl [HO1]
  · iexists _; isplitl [HO1]
    · iexact HO1
    · ipureintro; exact fin1 c a0 a1 a2 a5 a6 a8 a3 a4 a7 a9 x w1 w2 dr ch tp1 tp2 fw0 fw1 fw2 fw3 fw4 fw5 fw6 fw7 fw8 fw9 fs0 fs1 fs9 fo1
  isplitl [HO2]
  · iexists _; isplitl [HO2]
    · iexact HO2
    · ipureintro; exact fin2 c a0 a1 a2 a5 a6 a8 a3 a4 a7 a9 x w1 w2 dr ch tp1 tp2 fw0 fw1 fw2 fw3 fw4 fw5 fw6 fw7 fw8 fw9 fs0 fs1 fs8 fo2
  iexists _; iexact HW

end Cert.KernelIdeal.Hand

end
-- ==== Proof.LaunchV.lean ====
/- Hand-written. The launch around the body at the extended reals, the results at their closed contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Launch0
public import proofs.«01_k».proof.Proof.RunV
public import Idealize.ShloMosaic.Lib.Pipeline.FrameSuffixV
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.KernelIdeal.HandV

open Cert.KernelIdeal Cert.KernelIdeal.Gen
open Cert.KernelIdeal.Hand hiding frame dats A_eq before_0 after_0 before_1 after_1 before_2 after_2 before_3 after_3 before_4 after_4 before_5 after_5 before_6 after_6 before_7 after_7 before_8 after_8 before_9 after_9
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The proof's algebra at the extended reals. -/
local notation "𝕄" => MT nD τ sig Unit (Elt Ideal) ℕ (Pipeline.UD sig nD τ) ℕ

variable (m : (ℓ : Loc nD τ sig) → Buf (Elt Ideal) ℓ) (ρ : Dev nD → PrngReg)

/-- The only grid point. -/
abbrev tt : Fin cfg0.N := ⟨0, by decide⟩

/-- The kernel's operands as the region finds them. -/
def KK (c : Dev nD) : KIn :=
  kinB (c := c) (iblk m c 0 tt) (iblk m c 1 tt) (iblk m c 2 tt) (iblk m c 3 tt) (iblk m c 4 tt) (iblk m c 5 tt) (iblk m c 6 tt) (iblk m c 7 tt) (iblk m c 8 tt) (iblk m c 9 tt)
    (V m c main_arg0) (V m c main_arg2) (V m c main_arg4) (V m c main_arg14) (V m c main_arg10) (V m c main_arg6) (V m c main_arg8)

/-- What the region leaves in the buffers it writes. -/
def GG (c : Dev nD) : (b : Ref sig .tc) → Buf (Elt Ideal) ((c.tc : Thread nD τ).loc b) :=
  Function.update (Function.update (Function.update (fun b => V m c b) main_v30_0 (G0 (KK m c))) main_v30_1 (G1 (KK m c))) main_v30_2 (G2 (KK m c))

theorem GG_0 (c : Dev nD) : GG m c main_v30_0 = G0 (KK m c) := by
  unfold GG
  rw [Function.update_of_ne (by decide), Function.update_of_ne (by decide), Function.update_self]
theorem GG_1 (c : Dev nD) : GG m c main_v30_1 = G1 (KK m c) := by
  unfold GG
  rw [Function.update_of_ne (by decide), Function.update_self]
theorem GG_2 (c : Dev nD) : GG m c main_v30_2 = G2 (KK m c) := by
  unfold GG
  rw [Function.update_self]

/-- The written buffers at given contents, one by one. -/
theorem wrtPts0_eq (c : Dev nD) (f : (b : Ref sig .tc) → Buf (Elt Ideal) ((c.tc : Thread nD τ).loc b)) :
    (bigSep R0 (fun b => ((c : Thread nD τ).loc b) ↦{fullShare} f b) : sProp 𝕄)
      = iprop(pt c main_v30_0 (f main_v30_0) ∗ pt c main_v30_1 (f main_v30_1) ∗ pt c main_v30_2 (f main_v30_2)) := by
  rw [BI.bigSep_eq_bigSepL_of_eq [main_v30_0, main_v30_1, main_v30_2] (by decide) (by decide)]; rfl
/-- The region's invariant with the written buffers at named contents, buffer by buffer. -/
theorem PhiV_eq (c : Dev nD) (G : (c : Dev nD) → (b : Ref sig .tc) → Buf (Elt Ideal) ((c.tc : Thread nD τ).loc b)) :
    (Pipeline.ΦDRV osem0 spec0 H0 R0 (V m) G c : sProp 𝕄)
      = iprop(iprop((∃ f, pt (F := Ideal) c cc0_scratch0 f) ∗ (∃ f, pt (F := Ideal) c cc0_scratch1 f) ∗ (∃ f, pt (F := Ideal) c cc0_scratch2 f) ∗ (∃ f, pt (F := Ideal) c cc0_scratch3 f) ∗ (∃ f, pt (F := Ideal) c cc0_scratch4 f) ∗ (∃ f, pt (F := Ideal) c cc0_scratch5 f) ∗ (∃ f, pt (F := Ideal) c cc0_scratch6 f) ∗ (∃ f, pt (F := Ideal) c cc0_scratch7 f) ∗ (∃ f, pt (F := Ideal) c cc0_scratch8 f) ∗ (∃ f, pt (F := Ideal) c cc0_scratch9 f))
          ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop(pt c main_arg0 (V m c main_arg0) ∗ pt c main_arg2 (V m c main_arg2) ∗ pt c main_arg4 (V m c main_arg4) ∗ pt c main_arg14 (V m c main_arg14) ∗ pt c main_arg10 (V m c main_arg10) ∗ pt c main_arg6 (V m c main_arg6) ∗ pt c main_arg8 (V m c main_arg8))
          ∗ iprop(pt c main_v30_0 (G c main_v30_0) ∗ pt c main_v30_1 (G c main_v30_1) ∗ pt c main_v30_2 (G c main_v30_2))) := by
  unfold Pipeline.ΦDRV
  rw [scopedRest0_eq, ownSems00_eq, hbmPts0_eq, wrtPts0_eq]

/-- The proof data: the written buffers at their entry contents before the grid point, at the closed contents after it. -/
def datsV (p : Fin 1) (c : Dev nD) : Dat τ (Elt Ideal) Unit ℕ (Pipeline.UD sig nD τ) ℕ cfg0 c :=
  { Hand.dats m p c with Φ := fun t => if t.val = 0 then Pipeline.ΦDRV osem0 spec0 H0 R0 (V m) (V m) c else Pipeline.ΦDRV osem0 spec0 H0 R0 (V m) (GG m) c }

theorem A_eq (c : Dev nD) (w : Fin cfg0.W) : (datsV m 0 c).A w = V m c (Pipeline.arrRef spec0 w) := by
  dsimp only [datsV, Hand.dats]
theorem after_0 (c : Dev nD) (t : Fin cfg0.N) : (datsV m 0 c).after 0 t = iblk m c 0 t := by
  dsimp only [datsV, Hand.dats]
theorem before_0 (c : Dev nD) (t : Fin cfg0.N) (d) : (datsV m 0 c).before 0 t d = iblk m c 0 t :=
  ((datsV m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (datsV m 0 c).after 1 t = iblk m c 1 t := by
  dsimp only [datsV, Hand.dats]
theorem before_1 (c : Dev nD) (t : Fin cfg0.N) (d) : (datsV m 0 c).before 1 t d = iblk m c 1 t :=
  ((datsV m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (datsV m 0 c).after 2 t = iblk m c 2 t := by
  dsimp only [datsV, Hand.dats]
theorem before_2 (c : Dev nD) (t : Fin cfg0.N) (d) : (datsV m 0 c).before 2 t d = iblk m c 2 t :=
  ((datsV m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (datsV m 0 c).after 3 t = iblk m c 3 t := by
  dsimp only [datsV, Hand.dats]
theorem before_3 (c : Dev nD) (t : Fin cfg0.N) (d) : (datsV m 0 c).before 3 t d = iblk m c 3 t :=
  ((datsV m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (datsV m 0 c).after 4 t = iblk m c 4 t := by
  dsimp only [datsV, Hand.dats]
theorem before_4 (c : Dev nD) (t : Fin cfg0.N) (d) : (datsV m 0 c).before 4 t d = iblk m c 4 t :=
  ((datsV m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (datsV m 0 c).after 5 t = iblk m c 5 t := by
  dsimp only [datsV, Hand.dats]
theorem before_5 (c : Dev nD) (t : Fin cfg0.N) (d) : (datsV m 0 c).before 5 t d = iblk m c 5 t :=
  ((datsV m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (datsV m 0 c).after 6 t = iblk m c 6 t := by
  dsimp only [datsV, Hand.dats]
theorem before_6 (c : Dev nD) (t : Fin cfg0.N) (d) : (datsV m 0 c).before 6 t d = iblk m c 6 t :=
  ((datsV m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (datsV m 0 c).after 7 t = iblk m c 7 t := by
  dsimp only [datsV, Hand.dats]
theorem before_7 (c : Dev nD) (t : Fin cfg0.N) (d) : (datsV m 0 c).before 7 t d = iblk m c 7 t :=
  ((datsV m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (datsV m 0 c).after 8 t = iblk m c 8 t := by
  dsimp only [datsV, Hand.dats]
theorem before_8 (c : Dev nD) (t : Fin cfg0.N) (d) : (datsV m 0 c).before 8 t d = iblk m c 8 t :=
  ((datsV m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin cfg0.N) : (datsV m 0 c).after 9 t = iblk m c 9 t := by
  dsimp only [datsV, Hand.dats]
theorem before_9 (c : Dev nD) (t : Fin cfg0.N) (d) : (datsV m 0 c).before 9 t d = iblk m c 9 t :=
  ((datsV m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

theorem datsV_owed (c : Dev nD) (t) : (datsV m 0 c).owed t = 0 := rfl
theorem PhiV_in (c : Dev nD) (t : Fin cfg0.N) : (datsV m 0 c).Φ t.castSucc = Pipeline.ΦDRV osem0 spec0 H0 R0 (V m) (V m) c :=
  if_pos (by have h := t.isLt; have : cfg0.N = 1 := by decide
             simp only [Fin.val_castSucc]; omega)
theorem PhiV_out (c : Dev nD) (t : Fin cfg0.N) : (datsV m 0 c).Φ t.succ = Pipeline.ΦDRV osem0 spec0 H0 R0 (V m) (GG m) c := by
  show (if t.val + 1 = 0 then Pipeline.ΦDRV osem0 spec0 H0 R0 (V m) (V m) c else Pipeline.ΦDRV osem0 spec0 H0 R0 (V m) (GG m) c) = _
  exact if_neg (Nat.succ_ne_zero t.val)

def bodyPreV (c : Dev nD) (t : Fin cfg0.N) : sProp 𝕄 :=
  iprop((datsV m 0 c).Φ t.castSucc ∗ (datsV m 0 c).owesAt () t.castSucc ∗ (∃ d, owns (c : Thread nD τ) (st0_0 t) fullShare ((datsV m 0 c).before 0 t d)) ∗ (∃ d, owns (c : Thread nD τ) (st0_1 t) fullShare ((datsV m 0 c).before 1 t d)) ∗ (∃ d, owns (c : Thread nD τ) (st0_2 t) fullShare ((datsV m 0 c).before 2 t d)) ∗ (∃ d, owns (c : Thread nD τ) (st0_3 t) fullShare ((datsV m 0 c).before 3 t d)) ∗ (∃ d, owns (c : Thread nD τ) (st0_4 t) fullShare ((datsV m 0 c).before 4 t d)) ∗ (∃ d, owns (c : Thread nD τ) (st0_5 t) fullShare ((datsV m 0 c).before 5 t d)) ∗ (∃ d, owns (c : Thread nD τ) (st0_6 t) fullShare ((datsV m 0 c).before 6 t d)) ∗ (∃ d, owns (c : Thread nD τ) (st0_7 t) fullShare ((datsV m 0 c).before 7 t d)) ∗ (∃ d, owns (c : Thread nD τ) (st0_8 t) fullShare ((datsV m 0 c).before 8 t d)) ∗ (∃ d, owns (c : Thread nD τ) (st0_9 t) fullShare ((datsV m 0 c).before 9 t d)))
def bodyPostV (c : Dev nD) (t : Fin cfg0.N) : sProp 𝕄 :=
  iprop((datsV m 0 c).Φ t.succ ∗ (datsV m 0 c).owesAt () t.succ ∗ owns (c : Thread nD τ) (st0_0 t) fullShare ((datsV m 0 c).after 0 t) ∗ owns (c : Thread nD τ) (st0_1 t) fullShare ((datsV m 0 c).after 1 t) ∗ owns (c : Thread nD τ) (st0_2 t) fullShare ((datsV m 0 c).after 2 t) ∗ owns (c : Thread nD τ) (st0_3 t) fullShare ((datsV m 0 c).after 3 t) ∗ owns (c : Thread nD τ) (st0_4 t) fullShare ((datsV m 0 c).after 4 t) ∗ owns (c : Thread nD τ) (st0_5 t) fullShare ((datsV m 0 c).after 5 t) ∗ owns (c : Thread nD τ) (st0_6 t) fullShare ((datsV m 0 c).after 6 t) ∗ owns (c : Thread nD τ) (st0_7 t) fullShare ((datsV m 0 c).after 7 t) ∗ owns (c : Thread nD τ) (st0_8 t) fullShare ((datsV m 0 c).after 8 t) ∗ owns (c : Thread nD τ) (st0_9 t) fullShare ((datsV m 0 c).after 9 t))

set_option maxHeartbeats 2000000 in
/-- The body at the one grid point. -/
theorem sound_bodyV (c : Dev nD) :
    bodyPreV m c tt ⊢ wp frame (wpE (defs₀ (F := Ideal)) Variants.none c none) Set.univ (bodyAt0 tt) (fun _ => bodyPostV m c tt) := by
  unfold bodyPreV bodyPostV bodyAt0
  simp only [after_0, after_1, after_2, after_3, after_4, after_5, after_6, after_7, after_8, after_9, before_0, before_1, before_2, before_3, before_4, before_5, before_6, before_7, before_8, before_9]
  rw [PhiV_in, PhiV_out, PhiV_eq, PhiV_eq, GG_0, GG_1, GG_2]
  unfold Dat.owesAt Pipeline.owesWithin
  rw [datsV_owed, datsV_owed]
  iintro ⟨⟨⟨HS0, HS1, HS2, HS3, HS4, HS5, HS6, HS7, HS8, HS9⟩, ⟨Hq10, Hq11, Hq12, Hq13, Hq14, Hq15, Hq16, Hq17, Hq18⟩, ⟨Hx_x, Hx_w1, Hx_w2, Hx_dr, Hx_ch, Hx_tp1, Hx_tp2⟩, ⟨HO0, HO1, HO2⟩⟩, ⟨%W, -, HW⟩, ⟨%d0, HB0⟩, ⟨%d1, HB1⟩, ⟨%d2, HB2⟩, ⟨%d3, HB3⟩, ⟨%d4, HB4⟩, ⟨%d5, HB5⟩, ⟨%d6, HB6⟩, ⟨%d7, HB7⟩, ⟨%d8, HB8⟩, ⟨%d9, HB9⟩⟩
  iapply (runV c _ _ _ _ _ _ _ _ _ _ _ _ _ _ _ _ _ _ _ _ _ _ _ _ _ _ _ _ _ _ (V m c main_arg0) (V m c main_arg2) (V m c main_arg4) (V m c main_arg14) (V m c main_arg10) (V m c main_arg6) (V m c main_arg8) W _)
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  isplitl [HB7]; · iexact HB7
  isplitl [HB8]; · iexact HB8
  isplitl [HB9]; · iexact HB9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hx_x]; · iexact Hx_x
  isplitl [Hx_w1]; · iexact Hx_w1
  isplitl [Hx_w2]; · iexact Hx_w2
  isplitl [Hx_dr]; · iexact Hx_dr
  isplitl [Hx_ch]; · iexact Hx_ch
  isplitl [Hx_tp1]; · iexact Hx_tp1
  isplitl [Hx_tp2]; · iexact Hx_tp2
  isplitl [HO0]; · iexists (V m c main_v30_0); iexact HO0
  isplitl [HO1]; · iexists (V m c main_v30_1); iexact HO1
  isplitl [HO2]; · iexists (V m c main_v30_2); iexact HO2
  isplitl [HW]; · iexact HW
  iintro ⟨HB0, HB1, HB2, HB3, HB4, HB5, HB6, HB7, HB8, HB9, HS0, HS1, HS2, HS3, HS4, HS5, HS6, HS7, HS8, HS9, Hq10, Hq11, Hq12, Hq13, Hq14, Hq15, Hq16, Hq17, Hq18, Hx_x, Hx_w1, Hx_w2, Hx_dr, Hx_ch, Hx_tp1, Hx_tp2, ⟨%f0, HO0, %e0⟩, ⟨%f1, HO1, %e1⟩, ⟨%f2, HO2, %e2⟩, ⟨%W', HW'⟩⟩
  subst e0; subst e1; subst e2
  isplitl [HS0 HS1 HS2 HS3 HS4 HS5 HS6 HS7 HS8 HS9 Hq10 Hq11 Hq12 Hq13 Hq14 Hq15 Hq16 Hq17 Hq18 Hx_x Hx_w1 Hx_w2 Hx_dr Hx_ch Hx_tp1 Hx_tp2 HO0 HO1 HO2]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hq10 Hq11 Hq12 Hq13 Hq14 Hq15 Hq16 Hq17 Hq18]
    · isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [Hx_x Hx_w1 Hx_w2 Hx_dr Hx_ch Hx_tp1 Hx_tp2]
    · isplitl [Hx_x]; · iexact Hx_x
      isplitl [Hx_w1]; · iexact Hx_w1
      isplitl [Hx_w2]; · iexact Hx_w2
      isplitl [Hx_dr]; · iexact Hx_dr
      isplitl [Hx_ch]; · iexact Hx_ch
      isplitl [Hx_tp1]; · iexact Hx_tp1
      iexact Hx_tp2
    isplitl [HO0]; · iexact HO0
    isplitl [HO1]; · iexact HO1
    iexact HO2
  isplitl [HW']
  · iexists W'; isplitr; · ipureintro; exact fun _ _ => Or.inl trivial
    iexact HW'
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  isplitl [HB7]; · iexact HB7
  isplitl [HB8]; · iexact HB8
  iexact HB9

theorem body_obligationV (c : Dev nD) : BodyObligation (datsV m 0 c) (defs₀ (F := Ideal)) Variants.none () Set.univ := fun t => by
  have ht : t = tt := by
    have h := t.isLt; have : cfg0.N = 1 := by decide
    exact Fin.ext (by show t.val = 0; omega)
  subst ht
  rw [bigSep_W0, bigSep_W0, defs₀_row]
  exact triple_restated (sound_bodyV m c) rfl .rfl fun _ => .rfl

set_option backward.isDefEq.respectTransparency.types false in
/-- The whole program's run with the final contents of every buffer: the lines after the region run from the closed contents. -/
theorem run_mainV : θ_run defs (onTc (τ := τ) (main (F := Ideal))) (s₀ m ρ) (fun r => ∀ c : Dev nD,
      (∀ w, r.2.mem ((spec0 w).arr.view.loc (c.tc : Thread nD τ)) = (datsV m 0 c).arrAt w cfg0.N)
      ∧ ∀ b ∈ Pipeline.restRefs sig spec0, r.2.mem ((c.tc : Thread nD τ).loc b)
          = StableHlo.after hostOps1 (Pipeline.withArrays spec0 c (Pipeline.withR (V0 m c) R0 c (GG m c)) fun w => (datsV m 0 c).arrAt w cfg0.N) (Proc.devRef .tc b)) :=
  Pipeline.θ_run_frame_dmaR_aroundV (Q' := _) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := GG m)
    (hmain := hmain m Variants.none) (hA := A_eq m) (hin := fun c => by rw [show (0 : Fin (cfg0.N + 1)) = Fin.castSucc tt from rfl]; rw [PhiV_in])
    (hout := fun c => by rw [show (Fin.last cfg0.N) = Fin.succ tt from rfl]; rw [PhiV_out])

end Cert.KernelIdeal.HandV

end
-- ==== Proof.HostK.lean ====
/- Hand-written. What the lines before the region leave in the kernel's windows, at an index. -/
module

public import proofs.«01_k».proof.Proof.LaunchV
public import Idealize.ShloMosaic.Lib.Pointwise
public import Idealize.ShloMosaic.Lib.Pipeline.ValueKit
public import Idealize.ShloMosaic.Lib.StableHlo.RunRead

@[expose] public section

set_option maxRecDepth 16384

noncomputable section

namespace Cert.KernelIdeal.HandV

open Cert.KernelIdeal Cert.KernelIdeal.Gen
open Cert.KernelIdeal.Hand hiding frame dats A_eq
open Idealize.ShloMosaic Idealize.ShloMosaic.TcCoe Idealize.ShloMosaic.Tactic
open Idealize.SL.Sem

variable (m : (ℓ : Loc nD τ sig) → Buf (Elt Ideal) ℓ)

/-- An array read at an index, as an extended real. -/
abbrev rd {S : Shape} (x : FVec Ideal S .f32) (i : S.Idx) : EReal := x i

/-- The row that the lines before the region make of argument 3. -/
theorem V_v25_at (c : Dev nD) (j : Fin 1024) : (V m c main_v25 : Vec Ideal S1x1024 .f32) (ix2 0 j) = rd (S := S1024) (m ((c.tc : Thread nD τ).loc main_arg3)) (ix1 j) := by
  unfold V V0
  simp only [List.flatten_cons, List.flatten_nil, List.append_nil]
  after_reads_simp
  pointwise [rd]

/-- The row that the lines before the region make of argument 15. -/
theorem V_v26_at (c : Dev nD) (j : Fin 1024) : (V m c main_v26 : Vec Ideal S1x1024 .f32) (ix2 0 j) = rd (S := S1024) (m ((c.tc : Thread nD τ).loc main_arg15)) (ix1 j) := by
  unfold V V0
  simp only [List.flatten_cons, List.flatten_nil, List.append_nil]
  after_reads_simp
  pointwise [rd]

/-- The row that the lines before the region make of argument 11. -/
theorem V_v27_at (c : Dev nD) (j : Fin 512) : (V m c main_v27 : Vec Ideal S1x512 .f32) (ix2 0 j) = rd (S := S512) (m ((c.tc : Thread nD τ).loc main_arg11)) (ix1 j) := by
  unfold V V0
  simp only [List.flatten_cons, List.flatten_nil, List.append_nil]
  after_reads_simp
  pointwise [rd]

/-- The row that the lines before the region make of argument 7. -/
theorem V_v28_at (c : Dev nD) (j : Fin 1024) : (V m c main_v28 : Vec Ideal S1x1024 .f32) (ix2 0 j) = rd (S := S1024) (m ((c.tc : Thread nD τ).loc main_arg7)) (ix1 j) := by
  unfold V V0
  simp only [List.flatten_cons, List.flatten_nil, List.append_nil]
  after_reads_simp
  pointwise [rd]

/-- The row that the lines before the region make of argument 9. -/
theorem V_v29_at (c : Dev nD) (j : Fin 4096) : (V m c main_v29 : Vec Ideal S1x4096 .f32) (ix2 0 j) = rd (S := S4096) (m ((c.tc : Thread nD τ).loc main_arg9)) (ix1 j) := by
  unfold V V0
  simp only [List.flatten_cons, List.flatten_nil, List.append_nil]
  after_reads_simp
  pointwise [rd]

/-- The shift that every row of the hidden state gets. -/
def sftK (c : Dev nD) : EReal :=
  FloatOps.ofBits (F := Ideal) .f32 0x3DCCCCCD#32 * Ideal.sin ((((m ((c.tc : Thread nD τ).loc main_arg1) : IVec S_ 32) ix0).toInt : ℝ) * FloatOps.ofBits (F := Ideal) .f32 0x3F000000#32)

/-- The second bias with the shift added. -/
theorem V_v6_at (c : Dev nD) (j : Fin 1024) : (V m c main_v6 : Vec Ideal S1x1024 .f32) (ix2 0 j) = ((rd (S := S1024) (m ((c.tc : Thread nD τ).loc main_arg5)) (ix1 j)))  + sftK m c := by
  unfold V V0
  simp only [List.flatten_cons, List.flatten_nil, List.append_nil]
  after_reads_simp
  pointwise [rd, sftK]
  rfl

/-- The difference of the two logit rows. -/
theorem V_v12_at (c : Dev nD) (j : Fin 512) : (V m c main_v12 : Vec Ideal S1x512 .f32) (ix2 0 j) = ((rd (S := S2x512) (m ((c.tc : Thread nD τ).loc main_arg12)) (ix2 0 j)))  - (rd (S := S2x512) (m ((c.tc : Thread nD τ).loc main_arg12)) (ix2 1 j)) := by
  unfold V V0
  simp only [List.flatten_cons, List.flatten_nil, List.append_nil]
  after_reads_simp
  pointwise [rd]

/-- The three scalars before the region: each one alone. -/
theorem V_v20 (c : Dev nD) : (V m c main_v20 : Vec Ideal S1 .f32) (ix1 0) = (rd (S := S1) (m ((c.tc : Thread nD τ).loc main_arg17)) (ix1 0)) := by
  unfold V V0
  simp only [List.flatten_cons, List.flatten_nil, List.append_nil]
  after_reads_simp
  pointwise [rd]
theorem V_v21 (c : Dev nD) : (V m c main_v21 : Vec Ideal S1 .f32) (ix1 0) = (rd (S := S1) (m ((c.tc : Thread nD τ).loc main_arg19)) (ix1 0)) := by
  unfold V V0
  simp only [List.flatten_cons, List.flatten_nil, List.append_nil]
  after_reads_simp
  pointwise [rd]
theorem V_v22 (c : Dev nD) : (V m c main_v22 : Vec Ideal S1 .f32) (ix1 0) = ((rd (S := S2) (m ((c.tc : Thread nD τ).loc main_arg13)) (ix1 0)))  - (rd (S := S2) (m ((c.tc : Thread nD τ).loc main_arg13)) (ix1 1)) := by
  unfold V V0
  simp only [List.flatten_cons, List.flatten_nil, List.append_nil]
  after_reads_simp
  pointwise [rd]

theorem V_v24_eq (c : Dev nD) : (V m c main_v24 : Vec Ideal S1x3 .f32) = broadcastInDim S1x3 ![1] bcast_S3_S1x3_1 (concatenate S3 0
    [⟨S1, (V m c main_v20 : Vec Ideal S1 .f32)⟩, ⟨S1, (V m c main_v21 : Vec Ideal S1 .f32)⟩, ⟨S1, (V m c main_v22 : Vec Ideal S1 .f32)⟩] concatenates_S1_S1_S1_S3_d0) := by
  unfold V V0
  simp only [List.flatten_cons, List.flatten_nil, List.append_nil]
  after_reads_simp
  rfl

/-- Window 0 holds its whole array. -/
theorem blk0 (c : Dev nD) (i : Fin 1) (j : Fin 1024) : (iblk m c 0 tt : Vec Ideal S1x1024 .f32) (ix2 i j) = (V m c main_v25 : Vec Ideal S1x1024 .f32) (ix2 i j) := by
  unfold iblk
  blk_ext [show ∀ a, win0_0.index tt a = 0 from by decide +kernel]

/-- Window 1 holds its whole array. -/
theorem blk1 (c : Dev nD) (i : Fin 1) (j : Fin 1024) : (iblk m c 1 tt : Vec Ideal S1x1024 .f32) (ix2 i j) = (V m c main_v6 : Vec Ideal S1x1024 .f32) (ix2 i j) := by
  unfold iblk
  blk_ext [show ∀ a, win0_1.index tt a = 0 from by decide +kernel]

/-- Window 2 holds its whole array. -/
theorem blk2 (c : Dev nD) (i : Fin 1) (j : Fin 1024) : (iblk m c 2 tt : Vec Ideal S1x1024 .f32) (ix2 i j) = (V m c main_v26 : Vec Ideal S1x1024 .f32) (ix2 i j) := by
  unfold iblk
  blk_ext [show ∀ a, win0_2.index tt a = 0 from by decide +kernel]

/-- Window 3 holds its whole array. -/
theorem blk3 (c : Dev nD) (i : Fin 1) (j : Fin 512) : (iblk m c 3 tt : Vec Ideal S1x512 .f32) (ix2 i j) = (V m c main_v27 : Vec Ideal S1x512 .f32) (ix2 i j) := by
  unfold iblk
  blk_ext [show ∀ a, win0_3.index tt a = 0 from by decide +kernel]

/-- Window 4 holds its whole array. -/
theorem blk4 (c : Dev nD) (i : Fin 1) (j : Fin 512) : (iblk m c 4 tt : Vec Ideal S1x512 .f32) (ix2 i j) = (V m c main_v12 : Vec Ideal S1x512 .f32) (ix2 i j) := by
  unfold iblk
  blk_ext [show ∀ a, win0_4.index tt a = 0 from by decide +kernel]

/-- Window 7 holds its whole array. -/
theorem blk7 (c : Dev nD) (i : Fin 1) (j : Fin 3) : (iblk m c 7 tt : Vec Ideal S1x3 .f32) (ix2 i j) = (V m c main_v24 : Vec Ideal S1x3 .f32) (ix2 i j) := by
  unfold iblk
  blk_ext [show ∀ a, win0_7.index tt a = 0 from by decide +kernel]

/-- Window 8 holds its whole array. -/
theorem blk8 (c : Dev nD) (i : Fin 1) (j : Fin 1024) : (iblk m c 8 tt : Vec Ideal S1x1024 .f32) (ix2 i j) = (V m c main_v28 : Vec Ideal S1x1024 .f32) (ix2 i j) := by
  unfold iblk
  blk_ext [show ∀ a, win0_8.index tt a = 0 from by decide +kernel]

/-- Window 9 holds its whole array. -/
theorem blk9 (c : Dev nD) (i : Fin 1) (j : Fin 4096) : (iblk m c 9 tt : Vec Ideal S1x4096 .f32) (ix2 i j) = (V m c main_v29 : Vec Ideal S1x4096 .f32) (ix2 i j) := by
  unfold iblk
  blk_ext [show ∀ a, win0_9.index tt a = 0 from by decide +kernel]

/-- Window 5 holds its whole array. -/
theorem blk5 (c : Dev nD) (i : Fin 1) (j : Fin 1024) : (iblk m c 5 tt : Vec Ideal S1x1024 .f32) (ix2 i j) = (V m c main_arg16 : Vec Ideal S1x1024 .f32) (ix2 i j) := by
  unfold iblk
  blk_ext [show ∀ a, win0_5.index tt a = 0 from by decide +kernel]

/-- Window 6 holds its whole array. -/
theorem blk6 (c : Dev nD) (i : Fin 1) (j : Fin 1024) : (iblk m c 6 tt : Vec Ideal S1x1024 .f32) (ix2 i j) = (V m c main_arg18 : Vec Ideal S1x1024 .f32) (ix2 i j) := by
  unfold iblk
  blk_ext [show ∀ a, win0_6.index tt a = 0 from by decide +kernel]

end Cert.KernelIdeal.HandV

end
-- ==== Proof.Pick.lean ====
/- Hand-written. The reference's choice of the more probable action, and the probability it takes. -/
module

public import proofs.«01_k».proof.Proof.Ref
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- A pair of a value and an index. -/
abbrev VI : Type := EReal × BitVec 32

/-- One step of the choice. -/
abbrev stp (a b : VI) : VI := reducer_argmax_f32_i32 (F := Ideal) a b

theorem stp_cases (a b : VI) : (stp a b = a ∧ b.1 ≤ a.1) ∨ (stp a b = b ∧ a.1 ≤ b.1) := by
  obtain ⟨x, u⟩ := a
  obtain ⟨y, v⟩ := b
  unfold stp reducer_argmax_f32_i32
  simp only [Ideal.cmpf_def, Ideal.cmp]
  rcases lt_trichotomy x y with h | h | h
  · right
    have h1 : ¬ y < x := not_lt.mpr h.le
    have h2 : x ≠ y := h.ne
    refine ⟨?_, h.le⟩
    simp [h1, h2, IntOp.ori, IntOp.andi, Scalar.select]
  · subst h
    by_cases h3 : u.slt v
    · left; exact ⟨by simp [h3, IntOp.ori, IntOp.andi, IntOp.cmpi, Scalar.select], le_refl _⟩
    · right; exact ⟨by simp [h3, IntOp.ori, IntOp.andi, IntOp.cmpi, Scalar.select], le_refl _⟩
  · left
    refine ⟨?_, h.le⟩
    have ho : ∀ b : BitVec 1, 1#1 ||| b = 1#1 := by decide
    simp [h, ho, IntOp.ori, IntOp.andi, Scalar.select]

/-- The whole choice returns the starting pair or one of those listed, and no listed value exceeds it. -/
theorem fold_stp (L : List VI) : ∀ a : VI, (L.foldl stp a = a ∨ L.foldl stp a ∈ L)
    ∧ a.1 ≤ (L.foldl stp a).1 ∧ ∀ q ∈ L, q.1 ≤ (L.foldl stp a).1 := by
  induction L with
  | nil => intro a; simp
  | cons b L ih =>
    intro a
    obtain ⟨h1, h2, h3⟩ := ih (stp a b)
    rw [List.foldl_cons]
    rcases stp_cases a b with ⟨e, hle⟩ | ⟨e, hle⟩
    · rw [e] at h1 h2 h3 ⊢
      refine ⟨?_, h2, ?_⟩
      · rcases h1 with h | h
        · exact Or.inl h
        · exact Or.inr (List.mem_cons_of_mem _ h)
      · intro q hq
        rcases List.mem_cons.1 hq with rfl | hq
        · exact hle.trans h2
        · exact h3 q hq
    · rw [e] at h1 h2 h3 ⊢
      refine ⟨?_, hle.trans h2, ?_⟩
      · rcases h1 with h | h
        · exact Or.inr (by rw [h]; exact List.mem_cons_self)
        · exact Or.inr (List.mem_cons_of_mem _ h)
      · intro q hq
        rcases List.mem_cons.1 hq with rfl | hq
        · exact h2
        · exact h3 q hq

/-- The chosen index is 0 or 1, and the probability there is the larger. -/
theorem amT_pick (p : FVec Ideal S1024x2 .f32) (i : Fin 1024) (hp : ∀ k : Fin 2, (⊥ : EReal) < p (ix2 i k)) :
    ∃ k : Fin 2, (amT (F := Ideal) p : IVec S1024 32) (ix1 i) = BitVec.ofNat 32 k.val
      ∧ ∀ l : Fin 2, (p (ix2 i l) : EReal) ≤ p (ix2 i k) := by
  set r : VI := Host.argReduce (F := Ideal) reducer_argmax_f32_i32 p (iotaInDim S1024x2 32 1) (constant S_ .f32 4286578688#32)
    (constantI S_ 32 0#32) reducesTo_S1024x2_S1024_d1 h_S_ (ix1 i) with hr
  have hbot : Ideal.ofBits .f32 4286578688#32 = ⊥ := by
    simp [Ideal.ofBits, Ideal.ieee]
  have e : (amT (F := Ideal) p : IVec S1024 32) (ix1 i) = r.2 := by
    pointwise [amT]
    rfl
  have e2 : r = (Host.argReduceFiber (p : S1024x2.Idx → EReal) (iotaInDim S1024x2 32 1) reducesTo_S1024x2_S1024_d1 (ix1 i)).foldl stp
      ((⊥ : EReal), (0#32 : BitVec 32)) := by
    rw [hr, Ideal.argReduce_eq_reduce2, Host.reduce2_eq_foldl_fiber]
    rw [← hbot]
    rfl
  have hmem : ∀ q : VI, q ∈ Host.argReduceFiber (p : S1024x2.Idx → EReal) (iotaInDim S1024x2 32 1) reducesTo_S1024x2_S1024_d1 (ix1 i)
      ↔ ∃ k : Fin 2, q = (p (ix2 i k), BitVec.ofNat 32 k.val) := by
    intro q
    unfold Host.argReduceFiber
    rw [List.mem_map]
    constructor
    · rintro ⟨n, hn, rfl⟩
      have hd := of_decide_eq_true (List.mem_filter.1 hn).2
      generalize hx : S1024x2.rowMajor.symm n = x at hd ⊢
      have h0 : x 0 = i := congrFun hd 0
      refine ⟨x 1, ?_⟩
      have hxx : x = ix2 i (x 1) := by
        funext a
        match a with
        | ⟨0, _⟩ => exact h0
        | ⟨1, _⟩ => rfl
      exact Prod.ext (congrArg p hxx) rfl
    · rintro ⟨k, rfl⟩
      refine ⟨S1024x2.rowMajor (ix2 i k), List.mem_filter.2 ⟨List.mem_finRange _, ?_⟩, ?_⟩
      · rw [Equiv.symm_apply_apply]
        refine decide_eq_true ?_
        funext a
        match a with
        | ⟨0, _⟩ => rfl
      · rw [Equiv.symm_apply_apply]; rfl
  obtain ⟨h1, h2, h3⟩ := fold_stp (Host.argReduceFiber (p : S1024x2.Idx → EReal) (iotaInDim S1024x2 32 1) reducesTo_S1024x2_S1024_d1 (ix1 i)) ((⊥ : EReal), (0#32 : BitVec 32))
  rw [← e2] at h1 h2 h3
  have hge : ∀ l : Fin 2, (p (ix2 i l) : EReal) ≤ r.1 := fun l => h3 (p (ix2 i l), BitVec.ofNat 32 l.val) ((hmem _).2 ⟨l, rfl⟩)
  rcases h1 with h1 | h1
  · exact absurd (hge 0) (by rw [h1]; exact not_le.2 (hp 0))
  · obtain ⟨k, hk⟩ := (hmem _).1 h1
    refine ⟨k, by rw [e, hk], fun l => ?_⟩
    have := hge l
    rw [hk] at this
    exact this

/-- The index array read by the gather. -/
theorem gath_at (p : FVec Ideal S1024x2 .f32) (idx : IVec S1024x1x1 32) (i : Fin 1024) (k : Fin 2)
    (h : idx (ix3 i 0 0) = BitVec.ofNat 32 k.val) :
    Host.gather gather_S1024x2_S1024x1x1_S1024x1_n_1_0_0_1_2_11 p idx (ix2 i (0 : Fin 1)) = p (ix2 i k) := by
  unfold Host.gather
  congr 1
  funext a
  refine Fin.ext ?_
  match a with
  | ⟨0, _⟩ =>
    show (gather_S1024x2_S1024x1x1_S1024x1_n_1_0_0_1_2_11.start (ix2 i (0 : Fin 1)) idx 0) + gather_S1024x2_S1024x1x1_S1024x1_n_1_0_0_1_2_11.batchCoord (ix2 i (0 : Fin 1)) 0 + gather_S1024x2_S1024x1x1_S1024x1_n_1_0_0_1_2_11.offCoord (ix2 i (0 : Fin 1)) 0 = i.val
    rw [GatherDims.start_batching _ _ _ _ (by decide), GatherDims.offCoord_eq_zero _ _ _ (by decide)]
    simp only [Nat.zero_add, Nat.add_zero]
    rfl
  | ⟨1, _⟩ =>
    show (gather_S1024x2_S1024x1x1_S1024x1_n_1_0_0_1_2_11.start (ix2 i (0 : Fin 1)) idx 1) + gather_S1024x2_S1024x1x1_S1024x1_n_1_0_0_1_2_11.batchCoord (ix2 i (0 : Fin 1)) 1 + gather_S1024x2_S1024x1x1_S1024x1_n_1_0_0_1_2_11.offCoord (ix2 i (0 : Fin 1)) 1 = k.val
    rw [GatherDims.batchCoord_eq_zero _ _ _ (by decide), GatherDims.offCoord_eq_zero _ _ _ (by decide)]
    simp only [Nat.add_zero]
    unfold GatherDims.start
    rw [dif_pos (by decide)]
    have hsi : gather_S1024x2_S1024x1x1_S1024x1_n_1_0_0_1_2_11.siIdx (ix2 i (0 : Fin 1)) ⟨List.idxOf (1 : Fin 2) gather_S1024x2_S1024x1x1_S1024x1_n_1_0_0_1_2_11.startIndexMap, by decide⟩ = ix3 i 0 0 := by
      funext b; refine Fin.ext ?_
      match b with
      | ⟨0, _⟩ => rfl
      | ⟨1, _⟩ => rfl
      | ⟨2, _⟩ => rfl
    rw [hsi, h]
    revert k
    intro k _
    match k with
    | ⟨0, _⟩ => rfl
    | ⟨1, _⟩ => rfl

/-- Taking the probability at index `k`, in range, and its logarithm. -/
theorem lpT_at (a : IVec S1024 32) (p : FVec Ideal S1024x2 .f32) (i : Fin 1024) (k : Fin 2)
    (ha : a (ix1 i) = BitVec.ofNat 32 k.val) :
    (lpT (F := Ideal) a p : FVec Ideal S1024 .f32) (ix1 i) = Ideal.log (p (ix2 i k)) := by
  pointwise [lpT]
  rw [gath_at p _ i k (by
    pointwise []
    rw [ha]
    match k with
    | ⟨0, _⟩ => rfl
    | ⟨1, _⟩ => rfl)]
  rw [ha]
  have hone : (Finset.univ : Finset (Fin 1)) = {0} := rfl
  rw [hone, Finset.fold_singleton]
  have hk : ∀ k : Fin 2, IntOp.andi (IntOp.andi
      (IntOp.cmpi .sge (Scalar.select (IntOp.cmpi .slt (BitVec.ofNat 32 k.val) 0#32) (IntOp.addi (BitVec.ofNat 32 k.val) 2#32) (BitVec.ofNat 32 k.val)) 0#32)
      (IntOp.cmpi .sle (Scalar.select (IntOp.cmpi .slt (BitVec.ofNat 32 k.val) 0#32) (IntOp.addi (BitVec.ofNat 32 k.val) 2#32) (BitVec.ofNat 32 k.val)) 1#32))
      1#1 = 1#1 := by decide
  rw [hk k]
  rfl

end Cert.ReferenceIdeal.Hand

end
-- ==== Proof.Math.lean ====
/- Hand-written. The two programs' formulas over the extended reals, and why they agree. -/
module

public import proofs.«01_k».proof.Proof.Chain
public import Idealize.ShloMosaic.Lib.IdealHost

@[expose] public section

set_option maxRecDepth 16384

noncomputable section

namespace Cert.Math

open Idealize.ShloMosaic
open Cert.KernelIdeal.Hand (lin rlin KIn)

/-! ## Real values among the extended reals -/

/-- A value that is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max' {x y : EReal} (hx : IsR x) (hy : IsR y) : IsR (max x y) := by
  rcases max_choice x y with h | h <;> rw [h] <;> assumption

theorem IsR.zero : IsR 0 := ⟨0, rfl⟩

theorem IsR.sum {n : Nat} {f : Fin n → EReal} (h : ∀ t, IsR (f t)) : IsR (∑ t, f t) :=
  Finset.sum_induction f IsR (fun _ _ => IsR.add) IsR.zero (fun t _ => h t)

/-- A value whose size is below the top one is a real number. -/
theorem IsR.of_abs_lt {x : EReal} (h : max x (-x) < ⊤) : IsR x := by
  induction x using EReal.rec with
  | bot => simp at h
  | coe r => exact ⟨r, rfl⟩
  | top => simp at h

theorem IsR.lin {m n k : Nat} {X : Fin m → Fin k → EReal} {W : Fin n → Fin k → EReal} {b : Fin n → EReal}
    (hX : ∀ i t, IsR (X i t)) (hW : ∀ j t, IsR (W j t)) (hb : ∀ j, IsR (b j)) (i : Fin m) (j : Fin n) : IsR (lin X W b i j) :=
  IsR.add (IsR.sum fun t => IsR.mul (hX i t) (hW j t)) (hb j)

theorem IsR.rlin {m n k : Nat} {X : Fin m → Fin k → EReal} {W : Fin n → Fin k → EReal} {b : Fin n → EReal}
    (hX : ∀ i t, IsR (X i t)) (hW : ∀ j t, IsR (W j t)) (hb : ∀ j, IsR (b j)) (i : Fin m) (j : Fin n) : IsR (rlin X W b i j) :=
  IsR.max' (IsR.lin hX hW hb i j) IsR.zero

theorem coe_sum {n : Nat} (f : Fin n → ℝ) : (∑ t, (f t : EReal)) = ((∑ t, f t : ℝ) : EReal) := by
  induction n with
  | zero => simp
  | succ n ih => rw [Fin.sum_univ_castSucc, Fin.sum_univ_castSucc, EReal.coe_add, ih]

/-! ## The constants -/

theorem ninf_eq : Ideal.ofBits .f32 4286578688#32 = ⊥ := by
  simp [Ideal.ofBits, Ideal.ieee]

theorem eps_pos : (0 : EReal) < Ideal.ofBits .f32 0x2B8CBCCC#32 := by
  simp [Ideal.ofBits, Ideal.ieee, -EReal.coe_mul]

theorem tenth_real : IsR (Ideal.ofBits .f32 0x3DCCCCCD#32) := by
  simp only [Ideal.ofBits, Ideal.ieee]
  simp [-EReal.coe_mul]
  exact ⟨_, rfl⟩

theorem half_real : IsR (Ideal.ofBits .f32 0x3F000000#32) := by
  simp only [Ideal.ofBits, Ideal.ieee]
  simp [-EReal.coe_mul]
  exact ⟨_, rfl⟩

theorem sin_real {x : EReal} (h : IsR x) : IsR (Ideal.sin x) := by
  obtain ⟨r, rfl⟩ := h
  exact ⟨Real.sin r, rfl⟩

/-! ## Two-way softmax -/

/-- The largest of two scores, as the reference forms it. -/
def top2 (l : Fin 2 → EReal) : EReal :=
  max (Ideal.ofBits .f32 4286578688#32) (Finset.fold max (Ideal.ofBits .f32 4286578688#32) (fun x => l x) Finset.univ)

/-- The softmax of two scores, as the reference forms it. -/
def smax (l : Fin 2 → EReal) (k : Fin 2) : EReal :=
  Ideal.div (Ideal.exp (l k - top2 l)) (∑ x, Ideal.exp (l x - top2 l))

theorem top2_eq (l : Fin 2 → EReal) : top2 l = max (l 0) (l 1) := by
  have hu : (Finset.univ : Finset (Fin 2)) = {0, 1} := by decide
  unfold top2
  rw [ninf_eq, hu, Finset.fold_insert (by decide), Finset.fold_singleton]
  simp

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_real (a : ℝ) : Ideal.exp (a : EReal) = (Real.exp a : EReal) := rfl

theorem log_real (a : ℝ) (ha : 0 < a) : Ideal.log (a : EReal) = (Real.log a : EReal) := by
  show (if a ≤ 0 then (⊥ : EReal) else (Real.log a : EReal)) = _
  rw [if_neg (not_le.2 ha)]

theorem logistic_real (a : ℝ) : Ideal.logistic (a : EReal) = ((1 / (1 + Real.exp (-a)) : ℝ) : EReal) := by
  unfold Ideal.logistic
  rw [← EReal.coe_neg, exp_real, ← EReal.coe_one, ← EReal.coe_add, div_real _ _ (by positivity)]

theorem smax_real (r : Fin 2 → ℝ) (k : Fin 2) :
    smax (fun x => (r x : EReal)) k = ((1 / (Real.exp (r 0 - r k) + Real.exp (r 1 - r k)) : ℝ) : EReal) := by
  have ht : top2 (fun x => (r x : EReal)) = ((max (r 0) (r 1) : ℝ) : EReal) := by
    rw [top2_eq]; exact (EReal.coe_strictMono.monotone.map_max).symm
  unfold smax
  rw [ht, Fin.sum_univ_two]
  simp only [← EReal.coe_sub, exp_real]
  rw [← EReal.coe_add, div_real _ _ (by positivity)]
  congr 1
  generalize max (r 0) (r 1) = M
  rw [div_eq_div_iff (by positivity) (by positivity), mul_add, one_mul, ← Real.exp_add, ← Real.exp_add]
  congr 2 <;> ring

theorem smax_zero (r : Fin 2 → ℝ) : smax (fun x => (r x : EReal)) 0 = Ideal.logistic ((r 0 - r 1 : ℝ) : EReal) := by
  rw [smax_real, logistic_real]
  simp

theorem smax_one (r : Fin 2 → ℝ) : smax (fun x => (r x : EReal)) 1 = Ideal.logistic (0 - ((r 0 - r 1 : ℝ) : EReal)) := by
  rw [smax_real, show (0 : EReal) - ((r 0 - r 1 : ℝ) : EReal) = ((-(r 0 - r 1) : ℝ) : EReal) from by
    rw [zero_sub]; rfl, logistic_real]
  simp [add_comm]

theorem smax_pos (r : Fin 2 → ℝ) (k : Fin 2) : (⊥ : EReal) < smax (fun x => (r x : EReal)) k := by
  rw [smax_real]; exact EReal.bot_lt_coe _

open Cert.KernelIdeal.Hand (lpK entK stepK)

theorem lpK_real (d : ℝ) : lpK (d : EReal) = ((-Real.log (1 + Real.exp (-|d|)) : ℝ) : EReal) := by
  have h1 : (max (d : EReal) (-(d : EReal))) = ((|d| : ℝ) : EReal) := by
    rw [← EReal.coe_neg, abs_eq_max_neg]; exact (EReal.coe_strictMono.monotone.map_max).symm
  have h2 : (0 : EReal) - ((|d| : ℝ) : EReal) = ((-|d| : ℝ) : EReal) := by rw [zero_sub]; rfl
  have h3 : max (((-|d| : ℝ) : EReal)) 0 = 0 := by
    refine max_eq_right ?_
    rw [← EReal.coe_zero]
    exact EReal.coe_le_coe_iff.2 (neg_nonpos.2 (abs_nonneg d))
  have h4 : max (((-|d| : ℝ) : EReal)) (-(((-|d| : ℝ) : EReal))) = ((|d| : ℝ) : EReal) := by
    rw [← EReal.coe_neg, neg_neg]
    refine max_eq_right (EReal.coe_le_coe_iff.2 ?_)
    exact (neg_nonpos.2 (abs_nonneg d)).trans (abs_nonneg d)
  unfold lpK
  simp only [h1, h2, h3, sub_zero, h4, zero_add]
  unfold Ideal.log1p
  rw [exp_real, ← EReal.coe_one, ← EReal.coe_add, log_real _ (by positivity), zero_sub]
  rfl

theorem log_smax (r : Fin 2 → ℝ) (k : Fin 2)
    (hk : ∀ l, smax (fun x => (r x : EReal)) l ≤ smax (fun x => (r x : EReal)) k) :
    Ideal.log (smax (fun x => (r x : EReal)) k) = lpK ((r 0 - r 1 : ℝ) : EReal) := by
  have e : (1 : ℝ) / (Real.exp (r 0 - r k) + Real.exp (r 1 - r k)) = (1 + Real.exp (-|r 0 - r 1|))⁻¹ := by
    have hlt : ∀ l, r l ≤ r k := by
      intro l
      have h := hk l
      rw [smax_real, smax_real, EReal.coe_le_coe_iff, div_le_div_iff_of_pos_left one_pos (by positivity) (by positivity)] at h
      by_contra hc
      have hc := not_le.1 hc
      have e0 : Real.exp (r 0 - r l) < Real.exp (r 0 - r k) := Real.exp_lt_exp.2 (by linarith)
      have e1 : Real.exp (r 1 - r l) < Real.exp (r 1 - r k) := Real.exp_lt_exp.2 (by linarith)
      linarith
    rw [one_div]
    congr 1
    match k, hlt with
    | ⟨0, _⟩, hlt =>
      have h1 : r 1 ≤ r 0 := hlt 1
      show Real.exp (r 0 - r 0) + Real.exp (r 1 - r 0) = _
      rw [abs_of_nonneg (by linarith), sub_self, Real.exp_zero, neg_sub]
    | ⟨1, _⟩, hlt =>
      have h0 : r 0 ≤ r 1 := hlt 0
      show Real.exp (r 0 - r 1) + Real.exp (r 1 - r 1) = _
      rw [abs_of_nonpos (by linarith), sub_self, Real.exp_zero, neg_neg, add_comm]
  rw [lpK_real, smax_real, e, log_real _ (by positivity), Real.log_inv]

/-! ## The programs' formulas -/

/-- The arguments, as functions of their coordinates, and the shift of the first layer's bias. -/
structure Inp where
  X : Fin 1024 → Fin 4096 → EReal
  W1 : Fin 1024 → Fin 4096 → EReal
  B1 : Fin 1024 → EReal
  W2 : Fin 1024 → Fin 1024 → EReal
  B2 : Fin 1024 → EReal
  sft : EReal
  T1 : Fin 1024 → Fin 1024 → EReal
  TB1 : Fin 1024 → EReal
  T2 : Fin 4096 → Fin 1024 → EReal
  TB2 : Fin 4096 → EReal
  CH : Fin 512 → Fin 1024 → EReal
  CB : Fin 512 → EReal
  CW : Fin 2 → Fin 512 → EReal
  CC : Fin 2 → EReal
  DR : Fin 1024 → Fin 1024 → EReal
  DB : Fin 1024 → EReal
  SW : Fin 1024 → EReal
  SB : EReal
  VW : Fin 1024 → EReal
  VB : EReal

namespace Inp
variable (A : Inp)

/-- What the kernel is given of those arguments. -/
def toK : KIn where
  X := A.X
  W1 := A.W1
  B1 := A.B1
  W2 := A.W2
  B2 j := A.B2 j + A.sft
  DR := A.DR
  DB := A.DB
  CH := A.CH
  CB := A.CB
  WD h := A.CW 0 h - A.CW 1 h
  SW := A.SW
  VW := A.VW
  SC := ![A.SB, A.VB, A.CC 0 - A.CC 1]
  T1 := A.T1
  TB1 := A.TB1
  T2 := A.T2
  TB2 := A.TB2

/-- The reference's projected state. -/
def rs (i j : Fin 1024) : EReal := lin (rlin A.X A.W1 A.B1) A.W2 A.B2 i j + A.sft
/-- The reference's scores. -/
def logit (i : Fin 1024) (k : Fin 2) : EReal := lin (rlin A.rs A.CH A.CB) A.CW A.CC i k
/-- The reference's direction before scaling. -/
def dr : Fin 1024 → Fin 1024 → EReal := lin A.rs A.DR A.DB
/-- The reference's step length. -/
def step (i : Fin 1024) : EReal := Ideal.logistic ((∑ t, A.rs i t * A.SW t) + A.SB) * Ideal.ofBits .f32 0x40000000#32
/-- The reference's value. -/
def va (i : Fin 1024) : EReal := (∑ t, A.rs i t * A.VW t) + A.VB
/-- The reference's new position. -/
def np (i j : Fin 1024) : EReal :=
  A.rs i j + A.step i * Ideal.div (A.dr i j) (max (Ideal.sqrt (∑ t, A.dr i t * A.dr i t)) (Ideal.ofBits .f32 0x2B8CBCCC#32))
/-- The reference's decoded latent. -/
def la (i : Fin 1024) (j : Fin 4096) : EReal := lin (rlin A.np A.T1 A.TB1) A.T2 A.TB2 i j

theorem rs_eq : A.toK.rs = A.rs := by
  funext i j
  show (∑ t, _) + (A.B2 j + A.sft) = (∑ t, _) + A.B2 j + A.sft
  rw [add_assoc]
  rfl

theorem va_eq : A.toK.va = A.va := by
  funext i
  unfold KIn.va
  rw [rs_eq]
  rfl

theorem step_mul (s n d : EReal) (hn : n ≠ 0) : Ideal.div s n * d = s * Ideal.div d n := by
  unfold Ideal.div
  rw [if_neg hn, if_neg hn, mul_assoc, mul_comm n⁻¹ d]

theorem np_eq : A.toK.np = A.np := by
  funext i j
  have hdir : A.toK.dir = A.dr := by unfold KIn.dir; rw [rs_eq]; rfl
  have hst : A.toK.st i = (∑ t, A.rs i t * A.SW t) + A.SB := by unfold KIn.st; rw [rs_eq]; rfl
  unfold KIn.np stepK
  rw [hdir, hst, rs_eq, step_mul _ _ _ (ne_of_gt (lt_of_lt_of_le eps_pos (le_max_right _ _)))]
  rfl

theorem la_eq : A.toK.la = A.la := by
  funext i j
  unfold KIn.la KIn.lh
  rw [np_eq]
  rfl

/-- The arguments behind the scores are real numbers. -/
structure Fin' : Prop where
  X : ∀ i t, IsR (A.X i t)
  W1 : ∀ j t, IsR (A.W1 j t)
  B1 : ∀ j, IsR (A.B1 j)
  W2 : ∀ j t, IsR (A.W2 j t)
  B2 : ∀ j, IsR (A.B2 j)
  sft : IsR A.sft
  CH : ∀ j t, IsR (A.CH j t)
  CB : ∀ j, IsR (A.CB j)
  CW : ∀ j t, IsR (A.CW j t)
  CC : ∀ j, IsR (A.CC j)

variable {A}

/-- On real arguments the scores are real and the kernel's one number is their difference. -/
theorem logit_real (h : A.Fin') (i : Fin 1024) :
    ∃ r : Fin 2 → ℝ, (A.logit i = fun k => (r k : EReal)) ∧ A.toK.d i = ((r 0 - r 1 : ℝ) : EReal) := by
  have hrs : ∀ i t, IsR (A.rs i t) := fun i t =>
    IsR.add (IsR.lin (IsR.rlin h.X h.W1 h.B1) h.W2 h.B2 i t) h.sft
  have hch : ∀ t, IsR (rlin A.rs A.CH A.CB i t) := fun t => IsR.rlin hrs h.CH h.CB i t
  choose c hc using hch
  choose w hw using h.CW
  choose b hb using h.CC
  refine ⟨fun k => (∑ t, c t * w k t) + b k, ?_, ?_⟩
  · funext k
    show (∑ t, rlin A.rs A.CH A.CB i t * A.CW k t) + A.CC k = _
    simp only [hc, hw, hb, ← EReal.coe_mul]
    rw [coe_sum, ← EReal.coe_add]
  · have e : A.toK.d i = (∑ t, rlin A.rs A.CH A.CB i t * (A.CW 0 t - A.CW 1 t)) + (A.CC 0 - A.CC 1) := by
      unfold KIn.d KIn.ch
      rw [rs_eq]
      rfl
    rw [e]
    simp only [hc, hw, hb, ← EReal.coe_sub, ← EReal.coe_mul]
    rw [coe_sum, ← EReal.coe_add]
    congr 1
    simp only [mul_sub, Finset.sum_sub_distrib]
    ring

theorem prob_eq (h : A.Fin') (i : Fin 1024) : smax (A.logit i) 0 = Ideal.logistic (A.toK.d i) := by
  obtain ⟨r, e, ed⟩ := logit_real h i
  rw [e, ed, smax_zero]

theorem prob_bot (h : A.Fin') (i : Fin 1024) (k : Fin 2) : (⊥ : EReal) < smax (A.logit i) k := by
  obtain ⟨r, e, ed⟩ := logit_real h i
  rw [e]
  exact smax_pos r k

theorem lp_eq (h : A.Fin') (i : Fin 1024) (k : Fin 2) (hk : ∀ l, smax (A.logit i) l ≤ smax (A.logit i) k) :
    Ideal.log (smax (A.logit i) k) = lpK (A.toK.d i) := by
  obtain ⟨r, e, ed⟩ := logit_real h i
  rw [e] at hk ⊢
  rw [ed, log_smax r k hk]

theorem ent_eq (h : A.Fin') (i : Fin 1024) :
    -(∑ x, smax (A.logit i) x * Ideal.log (smax (A.logit i) x + Ideal.ofBits .f32 0x322BCC77#32)) = entK (A.toK.d i) := by
  obtain ⟨r, e, ed⟩ := logit_real h i
  rw [Fin.sum_univ_two, e, ed, smax_zero, smax_one]
  unfold entK
  exact (zero_sub _).symm

end Inp

end Cert.Math

end
-- ==== Proof.RefV.lean ====
/- Hand-written. The reference's results at an index, over the extended reals, as the formulas of the mathematics. -/
module

public import proofs.«01_k».proof.Proof.Pick
public import proofs.«01_k».proof.Proof.Math

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (lin rlin lpK entK)
open Cert.Math

/-- An array of two axes, by its coordinates. -/
abbrev c2 {m n : Nat} (x : FVec Ideal ⟨2, ![m, n]⟩ .f32) (i : Fin m) (j : Fin n) : EReal := x (ix2 i j)
/-- An array of one axis, by its coordinate. -/
abbrev c1 {n : Nat} (x : FVec Ideal ⟨1, ![n]⟩ .f32) (i : Fin n) : EReal := x (ix1 i)

/-- The arguments as functions of their coordinates. -/
def inp (A : Args Ideal) : Inp where
  X := c2 A.a0
  W1 := c2 A.a2
  B1 := c1 A.a3
  W2 := c2 A.a4
  B2 := c1 A.a5
  sft := Ideal.ofBits .f32 0x3DCCCCCD#32 * Ideal.sin ((((BitVec.toInt (A.a1 ix0)) : ℝ) : EReal) * Ideal.ofBits .f32 0x3F000000#32)
  T1 := c2 A.a6
  TB1 := c1 A.a7
  T2 := c2 A.a8
  TB2 := c1 A.a9
  CH := c2 A.a10
  CB := c1 A.a11
  CW := c2 A.a12
  CC := c1 A.a13
  DR := c2 A.a14
  DB := c1 A.a15
  SW t := A.a16 (ix2 0 t)
  SB := A.a17 (ix1 0)
  VW t := A.a18 (ix2 0 t)
  VB := A.a19 (ix1 0)

variable (A : Args Ideal)

theorem rrs_at (i j : Fin 1024) : c2 (rrs A) i j = (inp A).rs i j := by
  unfold c2 rrs
  pointwise [rsT]
  rfl

theorem rrs_fn : c2 (rrs A) = (inp A).rs := funext fun i => funext fun j => rrs_at A i j

theorem logT_at (cw : FVec Ideal S512x1024 .f32) (r : FVec Ideal S1024x1024 .f32) (cb : FVec Ideal S512 .f32) (w2 : FVec Ideal S2x512 .f32) (b2 : FVec Ideal S2 .f32) (i : Fin 1024) (k : Fin 2) :
    c2 (logT (F := Ideal) cw r cb w2 b2) i k = lin (rlin (c2 r) (c2 cw) (c1 cb)) (c2 w2) (c1 b2) i k := by
  unfold c2
  pointwise [logT]
  rfl

theorem rlog_fn (i : Fin 1024) : c2 (rlog A) i = (inp A).logit i := by
  funext k
  unfold rlog
  rw [logT_at, rrs_fn]
  rfl

theorem prT_at (l : FVec Ideal S1024x2 .f32) (i : Fin 1024) (k : Fin 2) :
    c2 (prT (F := Ideal) l) i k = smax (c2 l i) k := by
  unfold c2
  pointwise [prT]
  rfl

theorem rpr_fn (i : Fin 1024) : c2 (rpr A) i = smax ((inp A).logit i) := by
  funext k
  unfold rpr
  rw [prT_at, rlog_fn]

theorem drT_at (w : FVec Ideal S1024x1024 .f32) (r : FVec Ideal S1024x1024 .f32) (b : FVec Ideal S1024 .f32) (i j : Fin 1024) :
    c2 (drT (F := Ideal) w r b) i j = lin (c2 r) (c2 w) (c1 b) i j := by
  unfold c2
  pointwise [drT]
  rfl

theorem rdr_fn : c2 (rdr A) = (inp A).dr := by
  funext i j
  unfold rdr
  rw [drT_at, rrs_fn]
  rfl

theorem dirT_at (d : FVec Ideal S1024x1024 .f32) (i j : Fin 1024) :
    c2 (dirT (F := Ideal) d) i j = Ideal.div (c2 d i j) (max (Ideal.sqrt (∑ t, c2 d i t * c2 d i t)) (Ideal.ofBits .f32 0x2B8CBCCC#32)) := by
  unfold c2
  pointwise [dirT]

theorem stT_at (w : FVec Ideal S1x1024 .f32) (r : FVec Ideal S1024x1024 .f32) (b : FVec Ideal S1 .f32) (i : Fin 1024) :
    c2 (stT (F := Ideal) w r b) i 0 = Ideal.logistic ((∑ t, c2 r i t * w (ix2 0 t)) + b (ix1 0)) * Ideal.ofBits .f32 0x40000000#32 := by
  unfold c2
  pointwise [stT]
  rfl

theorem vaT_at (w : FVec Ideal S1x1024 .f32) (r : FVec Ideal S1024x1024 .f32) (b : FVec Ideal S1 .f32) (i : Fin 1024) :
    c2 (vaT (F := Ideal) w r b) i 0 = (∑ t, c2 r i t * w (ix2 0 t)) + b (ix1 0) := by
  unfold c2
  pointwise [vaT]

theorem npT_at (s : FVec Ideal S1024x1 .f32) (d : FVec Ideal S1024x1024 .f32) (r : FVec Ideal S1024x1024 .f32) (i j : Fin 1024) :
    c2 (npT (F := Ideal) s d r) i j = c2 r i j + c2 s i 0 * c2 d i j := by
  unfold c2
  pointwise [npT]

/-- The new position is the formula's. -/
theorem rnp_fn : c2 (rnp A) = (inp A).np := by
  funext i j
  unfold rnp rst rdir
  rw [npT_at, stT_at, dirT_at, rrs_fn, rdr_fn]
  rfl

theorem laT_at (w : FVec Ideal S1024x1024 .f32) (r : FVec Ideal S1024x1024 .f32) (b : FVec Ideal S1024 .f32) (w2 : FVec Ideal S4096x1024 .f32) (b2 : FVec Ideal S4096 .f32) (i : Fin 1024) (j : Fin 4096) :
    c2 (laT (F := Ideal) w r b w2 b2) i j = lin (rlin (c2 r) (c2 w) (c1 b)) (c2 w2) (c1 b2) i j := by
  unfold c2
  pointwise [laT]
  rfl

/-- The decoded latent is the formula's. -/
theorem rla_fn : c2 (rla A) = (inp A).la := by
  funext i j
  unfold rla
  rw [laT_at, rnp_fn]
  rfl

/-- The value is the formula's. -/
theorem rv0_fn : c1 (rv0 A) = (inp A).va := by
  funext i
  have e : c1 (rv0 A) i = c2 (rva A) i 0 := by
    unfold c1 c2 rv0
    pointwise [v0T]
  rw [e]
  unfold rva
  rw [vaT_at, rrs_fn]
  rfl

/-- The first probability is the softmax of the scores at 0. -/
theorem rp0_at (i : Fin 1024) : c1 (rp0 A) i = smax ((inp A).logit i) 0 := by
  have e : c1 (rp0 A) i = c2 (rpr A) i 0 := by
    unfold c1 c2 rp0
    pointwise [p0T]
  rw [e, rpr_fn]

/-- The entropy is that of the softmax of the scores. -/
theorem ren_at (i : Fin 1024) : c1 (ren A) i
    = -(∑ x, smax ((inp A).logit i) x * Ideal.log (smax ((inp A).logit i) x + Ideal.ofBits .f32 0x322BCC77#32)) := by
  rw [← rpr_fn]
  unfold c1 c2 ren
  pointwise [enT]

/-- The log probability is the logarithm of the larger probability. -/
theorem rlp_at (h : (inp A).Fin') (i : Fin 1024) : c1 (rlp A) i = lpK ((inp A).toK.d i) := by
  have hp : ∀ k : Fin 2, (⊥ : EReal) < (rpr A : FVec Ideal S1024x2 .f32) (ix2 i k) := by
    intro k
    have e : (rpr A : FVec Ideal S1024x2 .f32) (ix2 i k) = smax ((inp A).logit i) k := congrFun (rpr_fn A i) k
    rw [e]
    exact Inp.prob_bot h i k
  obtain ⟨k, hk, hmax⟩ := amT_pick (rpr A) i hp
  have e := lpT_at (ram A) (rpr A) i k hk
  have e2 : ∀ l, (rpr A : FVec Ideal S1024x2 .f32) (ix2 i l) = smax ((inp A).logit i) l := fun l => congrFun (rpr_fn A i) l
  simp only [e2] at hmax e
  unfold c1 rlp
  rw [e]
  exact Inp.lp_eq h i k hmax

end Cert.ReferenceIdeal.Hand

end
-- ==== Proof.KOut.lean ====
/- Hand-written. What the kernel's results hold at the end, as the formulas of the mathematics. -/
module

public import proofs.«01_k».proof.Proof.HostK
public import proofs.«01_k».proof.Proof.RefV

@[expose] public section

set_option maxRecDepth 16384

noncomputable section

namespace Cert.KernelIdeal.HandV

open Cert.KernelIdeal Cert.KernelIdeal.Gen
open Cert.KernelIdeal.Hand hiding frame dats A_eq
open Idealize.ShloMosaic Idealize.ShloMosaic.TcCoe Idealize.ShloMosaic.Tactic
open Idealize.SL.Sem
open Cert.ReferenceIdeal.Hand (inp)

variable (m : (ℓ : Loc nD τ sig) → Buf (Elt Ideal) ℓ) (ρ : Dev nD → PrngReg)

/-- The kernel's arguments, as the reference takes them. -/
def argsK (c : Dev nD) : Cert.ReferenceIdeal.Hand.Args Ideal where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)

/-- The three scalars' row at each column. -/
theorem V_v24_0 (c : Dev nD) : (V m c main_v24 : Vec Ideal S1x3 .f32) (ix2 0 0) = rd (S := S1) (m ((c.tc : Thread nD τ).loc main_arg17)) (ix1 0) := by
  rw [V_v24_eq, ← V_v20]
  rfl
theorem V_v24_1 (c : Dev nD) : (V m c main_v24 : Vec Ideal S1x3 .f32) (ix2 0 1) = rd (S := S1) (m ((c.tc : Thread nD τ).loc main_arg19)) (ix1 0) := by
  rw [V_v24_eq, ← V_v21]
  rfl
theorem V_v24_2 (c : Dev nD) : (V m c main_v24 : Vec Ideal S1x3 .f32) (ix2 0 2)
    = (rd (S := S2) (m ((c.tc : Thread nD τ).loc main_arg13)) (ix1 0)) - (rd (S := S2) (m ((c.tc : Thread nD τ).loc main_arg13)) (ix1 1)) := by
  rw [V_v24_eq, ← V_v22]
  rfl

theorem f3 {f g : Fin 3 → EReal} (h0 : f 0 = g 0) (h1 : f 1 = g 1) (h2 : f 2 = g 2) : ∀ j, f j = g j
  | ⟨0, _⟩ => h0
  | ⟨1, _⟩ => h1
  | ⟨2, _⟩ => h2

theorem SC_at (c : Dev nD) (j : Fin 3) : (V m c main_v24 : Vec Ideal S1x3 .f32) (ix2 0 j) = (inp (argsK m c)).toK.SC j :=
  f3 (f := fun j => (V m c main_v24 : Vec Ideal S1x3 .f32) (ix2 0 j)) (g := (inp (argsK m c)).toK.SC) (V_v24_0 m c) (V_v24_1 m c) (V_v24_2 m c) j

theorem KIn_ext {a b : KIn} (h0 : a.X = b.X) (h1 : a.W1 = b.W1) (h2 : a.B1 = b.B1) (h3 : a.W2 = b.W2) (h4 : a.B2 = b.B2) (h5 : a.DR = b.DR) (h6 : a.DB = b.DB)
    (h7 : a.CH = b.CH) (h8 : a.CB = b.CB) (h9 : a.WD = b.WD) (h10 : a.SW = b.SW) (h11 : a.VW = b.VW) (h12 : a.SC = b.SC) (h13 : a.T1 = b.T1) (h14 : a.TB1 = b.TB1)
    (h15 : a.T2 = b.T2) (h16 : a.TB2 = b.TB2) : a = b := by
  cases a
  cases b
  simp only at *
  subst h0 h1 h2 h3 h4 h5 h6 h7 h8 h9 h10 h11 h12 h13 h14 h15 h16
  rfl

set_option maxHeartbeats 4000000 in
/-- The operands the region finds are the arguments' own, arranged for the kernel. -/
theorem KK_eq (c : Dev nD) : KK m c = (inp (argsK m c)).toK := by
  refine KIn_ext ?_ ?_ ?_ ?_ ?_ ?_ ?_ ?_ ?_ ?_ ?_ ?_ ?_ ?_ ?_ ?_ ?_
  · funext i j; exact congrFun (V_main_arg0 m c) (ix2 i j)
  · funext i j; exact congrFun (V_main_arg2 m c) (ix2 i j)
  · funext j; exact (blk0 m c 0 j).trans (V_v25_at m c j)
  · funext i j; exact congrFun (V_main_arg4 m c) (ix2 i j)
  · funext j; exact (blk1 m c 0 j).trans (V_v6_at m c j)
  · funext i j; exact congrFun (V_main_arg14 m c) (ix2 i j)
  · funext j; exact (blk2 m c 0 j).trans (V_v26_at m c j)
  · funext i j; exact congrFun (V_main_arg10 m c) (ix2 i j)
  · funext j; exact (blk3 m c 0 j).trans (V_v27_at m c j)
  · funext j; exact (blk4 m c 0 j).trans (V_v12_at m c j)
  · funext j; exact (blk5 m c 0 j).trans (congrFun (V_main_arg16 m c) (ix2 0 j))
  · funext j; exact (blk6 m c 0 j).trans (congrFun (V_main_arg18 m c) (ix2 0 j))
  · funext j; exact (blk7 m c 0 j).trans (SC_at m c j)
  · funext i j; exact congrFun (V_main_arg6 m c) (ix2 i j)
  · funext j; exact (blk8 m c 0 j).trans (V_v28_at m c j)
  · funext i j; exact congrFun (V_main_arg8 m c) (ix2 i j)
  · funext j; exact (blk9 m c 0 j).trans (V_v29_at m c j)

/-- What the buffers hold after the region. -/
def WW (c : Dev nD) : Valuation τ sig (Elt Ideal) :=
  Pipeline.withArrays spec0 c (Pipeline.withR (V0 m c) R0 c (GG m c)) fun w => (datsV m 0 c).arrAt w cfg0.N

/-- A buffer that no line after the region writes, that is no window's and no result's, is as the region found it. -/
theorem end_keep (c : Dev nD) (b : Ref sig .tc) (h1 : b ∉ [main_v31, main_v32, main_v33, main_v34, main_v35, main_v36, main_v37, main_v38])
    (h2 : ∀ w, Pipeline.arrRef spec0 w ≠ b) (h3 : b ∉ R0) : StableHlo.after hostOps1 (WW m c) (Proc.devRef .tc b) = V m c b := by
  rw [StableHlo.after_unwritten [main_v31, main_v32, main_v33, main_v34, main_v35, main_v36, main_v37, main_v38] rfl h1]
  unfold WW
  rw [Pipeline.withArrays_of_ne _ _ _ _ _ h2, Pipeline.withR_of_not_mem _ _ _ _ _ h3]

/-- A result buffer that the lines after the region do not write holds what the region left there. -/
theorem end_res (c : Dev nD) (b : Ref sig .tc) (h1 : b ∉ [main_v31, main_v32, main_v33, main_v34, main_v35, main_v36, main_v37, main_v38])
    (h2 : ∀ w, Pipeline.arrRef spec0 w ≠ b) (h3 : b ∈ R0) : StableHlo.after hostOps1 (WW m c) (Proc.devRef .tc b) = GG m c b := by
  rw [StableHlo.after_unwritten [main_v31, main_v32, main_v33, main_v34, main_v35, main_v36, main_v37, main_v38] rfl h1]
  unfold WW
  rw [Pipeline.withArrays_of_ne _ _ _ _ _ h2, Pipeline.withR_of_mem _ _ _ _ _ h3]

theorem WW_1 (c : Dev nD) : WW m c (Proc.devRef .tc main_v30_1) = G1 (KK m c) := by
  unfold WW
  rw [Pipeline.withArrays_of_ne _ _ _ _ _ (by decide), Pipeline.withR_of_mem _ _ _ _ _ (by decide), GG_1]

/-- One column of the packed scalars, as an array of its own. -/
def colK (K : KIn) (k : Fin 4) : S1024.Idx → EReal := fun y => G1 K (ix2 (y 0) k)

theorem end_32 (c : Dev nD) : StableHlo.after hostOps1 (WW m c) (Proc.devRef .tc main_v32) = colK (KK m c) 0 := by
  after_reads_simp
  rw [WW_1]
  funext (y : S1024.Idx)
  obtain ⟨i, rfl⟩ : ∃ i, y = ix1 i := ⟨_, eq_ix1 y⟩
  unfold colK
  pointwise []

theorem end_34 (c : Dev nD) : StableHlo.after hostOps1 (WW m c) (Proc.devRef .tc main_v34) = colK (KK m c) 1 := by
  after_reads_simp
  rw [WW_1]
  funext (y : S1024.Idx)
  obtain ⟨i, rfl⟩ : ∃ i, y = ix1 i := ⟨_, eq_ix1 y⟩
  unfold colK
  pointwise []

theorem end_36 (c : Dev nD) : StableHlo.after hostOps1 (WW m c) (Proc.devRef .tc main_v36) = colK (KK m c) 2 := by
  after_reads_simp
  rw [WW_1]
  funext (y : S1024.Idx)
  obtain ⟨i, rfl⟩ : ∃ i, y = ix1 i := ⟨_, eq_ix1 y⟩
  unfold colK
  pointwise []

theorem end_38 (c : Dev nD) : StableHlo.after hostOps1 (WW m c) (Proc.devRef .tc main_v38) = colK (KK m c) 3 := by
  after_reads_simp
  rw [WW_1]
  funext (y : S1024.Idx)
  obtain ⟨i, rfl⟩ : ∃ i, y = ix1 i := ⟨_, eq_ix1 y⟩
  unfold colK
  pointwise []

/-- THE KERNEL'S RUN: its six results at the end, and its arguments as they were. -/
theorem run_out : θ_run defs (onTc (τ := τ) (main (F := Ideal))) (s₀ m ρ) (fun r => ∀ c : Dev nD,
      r.2.mem ((c.tc : Thread nD τ).loc main_v30_2) = G2 (KK m c)
      ∧ r.2.mem ((c.tc : Thread nD τ).loc main_v30_0) = G0 (KK m c)
      ∧ r.2.mem ((c.tc : Thread nD τ).loc main_v32) = colK (KK m c) 0
      ∧ r.2.mem ((c.tc : Thread nD τ).loc main_v34) = colK (KK m c) 1
      ∧ r.2.mem ((c.tc : Thread nD τ).loc main_v36) = colK (KK m c) 2
      ∧ r.2.mem ((c.tc : Thread nD τ).loc main_v38) = colK (KK m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨((h c).2 main_v30_2 (Pipeline.mem_restRefs_of main_v30_2 (by decide) (by decide))).trans ((end_res m c main_v30_2 (by decide) (by decide) (by decide)).trans (GG_2 m c)),
      ((h c).2 main_v30_0 (Pipeline.mem_restRefs_of main_v30_0 (by decide) (by decide))).trans ((end_res m c main_v30_0 (by decide) (by decide) (by decide)).trans (GG_0 m c)),
      ((h c).2 main_v32 (Pipeline.mem_restRefs_of main_v32 (by decide) (by decide))).trans (end_32 m c),
      ((h c).2 main_v34 (Pipeline.mem_restRefs_of main_v34 (by decide) (by decide))).trans (end_34 m c),
      ((h c).2 main_v36 (Pipeline.mem_restRefs_of main_v36 (by decide) (by decide))).trans (end_36 m c),
      ((h c).2 main_v38 (Pipeline.mem_restRefs_of main_v38 (by decide) (by decide))).trans (end_38 m c),
      ((h c).2 main_arg0 (Pipeline.mem_restRefs_of main_arg0 (by decide) (by decide))).trans ((end_keep m c main_arg0 (by decide) (by decide) (by decide)).trans (V_main_arg0 m c)),
      ((h c).2 main_arg1 (Pipeline.mem_restRefs_of main_arg1 (by decide) (by decide))).trans ((end_keep m c main_arg1 (by decide) (by decide) (by decide)).trans (V_main_arg1 m c)),
      ((h c).2 main_arg2 (Pipeline.mem_restRefs_of main_arg2 (by decide) (by decide))).trans ((end_keep m c main_arg2 (by decide) (by decide) (by decide)).trans (V_main_arg2 m c)),
      ((h c).2 main_arg3 (Pipeline.mem_restRefs_of main_arg3 (by decide) (by decide))).trans ((end_keep m c main_arg3 (by decide) (by decide) (by decide)).trans (V_main_arg3 m c)),
      ((h c).2 main_arg4 (Pipeline.mem_restRefs_of main_arg4 (by decide) (by decide))).trans ((end_keep m c main_arg4 (by decide) (by decide) (by decide)).trans (V_main_arg4 m c)),
      ((h c).2 main_arg5 (Pipeline.mem_restRefs_of main_arg5 (by decide) (by decide))).trans ((end_keep m c main_arg5 (by decide) (by decide) (by decide)).trans (V_main_arg5 m c)),
      ((h c).2 main_arg6 (Pipeline.mem_restRefs_of main_arg6 (by decide) (by decide))).trans ((end_keep m c main_arg6 (by decide) (by decide) (by decide)).trans (V_main_arg6 m c)),
      ((h c).2 main_arg7 (Pipeline.mem_restRefs_of main_arg7 (by decide) (by decide))).trans ((end_keep m c main_arg7 (by decide) (by decide) (by decide)).trans (V_main_arg7 m c)),
      ((h c).2 main_arg8 (Pipeline.mem_restRefs_of main_arg8 (by decide) (by decide))).trans ((end_keep m c main_arg8 (by decide) (by decide) (by decide)).trans (V_main_arg8 m c)),
      ((h c).2 main_arg9 (Pipeline.mem_restRefs_of main_arg9 (by decide) (by decide))).trans ((end_keep m c main_arg9 (by decide) (by decide) (by decide)).trans (V_main_arg9 m c)),
      ((h c).2 main_arg10 (Pipeline.mem_restRefs_of main_arg10 (by decide) (by decide))).trans ((end_keep m c main_arg10 (by decide) (by decide) (by decide)).trans (V_main_arg10 m c)),
      ((h c).2 main_arg11 (Pipeline.mem_restRefs_of main_arg11 (by decide) (by decide))).trans ((end_keep m c main_arg11 (by decide) (by decide) (by decide)).trans (V_main_arg11 m c)),
      ((h c).2 main_arg12 (Pipeline.mem_restRefs_of main_arg12 (by decide) (by decide))).trans ((end_keep m c main_arg12 (by decide) (by decide) (by decide)).trans (V_main_arg12 m c)),
      ((h c).2 main_arg13 (Pipeline.mem_restRefs_of main_arg13 (by decide) (by decide))).trans ((end_keep m c main_arg13 (by decide) (by decide) (by decide)).trans (V_main_arg13 m c)),
      ((h c).2 main_arg14 (Pipeline.mem_restRefs_of main_arg14 (by decide) (by decide))).trans ((end_keep m c main_arg14 (by decide) (by decide) (by decide)).trans (V_main_arg14 m c)),
      ((h c).2 main_arg15 (Pipeline.mem_restRefs_of main_arg15 (by decide) (by decide))).trans ((end_keep m c main_arg15 (by decide) (by decide) (by decide)).trans (V_main_arg15 m c)),
      ((h c).1 5).trans (((datsV m 0 c).arrAt_in 5 rfl _).trans ((A_eq m c 5).trans (V_main_arg16 m c))),
      ((h c).2 main_arg17 (Pipeline.mem_restRefs_of main_arg17 (by decide) (by decide))).trans ((end_keep m c main_arg17 (by decide) (by decide) (by decide)).trans (V_main_arg17 m c)),
      ((h c).1 6).trans (((datsV m 0 c).arrAt_in 6 rfl _).trans ((A_eq m c 6).trans (V_main_arg18 m c))),
      ((h c).2 main_arg19 (Pipeline.mem_restRefs_of main_arg19 (by decide) (by decide))).trans ((end_keep m c main_arg19 (by decide) (by decide) (by decide)).trans (V_main_arg19 m c))⟩) (run_mainV m ρ)

end Cert.KernelIdeal.HandV

end
-- ==== Proof.Alg.lean ====
/- Hand-written. The value claim: the kernel's six results are the reference's, on finite arguments of the scores. -/
module

public import proofs.«01_k».proof.Defs
public import proofs.«01_k».proof.Proof.KOut

@[expose] public section

set_option maxRecDepth 16384

noncomputable section

namespace Cert.Alg

open Idealize.ShloMosaic Idealize.ShloMosaic.TcCoe Idealize.ShloMosaic.Tactic
open Idealize.SL.Sem
open Cert.KernelIdeal.Hand (KIn G0 G1 G2 lpK entK)
open Cert.KernelIdeal.HandV (KK KK_eq argsK colK)
open Cert.ReferenceIdeal.Hand
open Cert.Math

/-- The side conditions of the precondition's broadcasts. -/
theorem preFacts : Cert.Pre_operands_finite.Facts :=
  ⟨by decide, by decide, by decide, by decide, by decide, by decide, by decide⟩

attribute [local instance] preFacts

/-- An array that passes the precondition's test holds real numbers. -/
theorem real_of_test {T : Shape} (h : (⟨0, ![]⟩ : Shape).BroadcastsInDim T ![]) (x : FVec Ideal T .f32)
    (e : (cmpf .olt (Host.absf x) (broadcastInDim T ![] h (constant ⟨0, ![]⟩ .f32 0x7F800000#32)) : IVec T 1) = fun _ => 1#1) (i : T.Idx) : IsR (x i) := by
  have h1 := congrFun e i
  have htop : Ideal.ofBits .f32 0x7F800000#32 = ⊤ := by simp [Ideal.ofBits, Ideal.ieee]
  have h2 : BitVec.ofBool (decide (max (x i : EReal) (-(x i : EReal)) < Ideal.ofBits .f32 0x7F800000#32)) = 1#1 := h1
  rw [htop] at h2
  refine IsR.of_abs_lt ?_
  by_contra hc
  rw [decide_eq_false hc] at h2
  exact absurd h2 (by decide)

variable (m : (ℓ : Loc Cert.KernelIdeal.nD Cert.KernelIdeal.τ Cert.KernelIdeal.sig) → Buf (Elt Ideal) ℓ)

/-- The precondition makes the arguments behind the scores real. -/
theorem fin_of_pre (h : Cert.Pre_KernelIdeal_operands_finite m) (c : Dev Cert.KernelIdeal.nD) : (inp (argsK m c)).Fin' := by
  obtain ⟨h0, h2, h3, h4, h5, h10, h11, h12, h13⟩ := h c
  have g0 := real_of_test _ _ h0
  have g2 := real_of_test _ _ h2
  have g3 := real_of_test _ _ h3
  have g4 := real_of_test _ _ h4
  have g5 := real_of_test _ _ h5
  have g10 := real_of_test _ _ h10
  have g11 := real_of_test _ _ h11
  have g12 := real_of_test _ _ h12
  have g13 := real_of_test _ _ h13
  exact {
    X := fun i t => g0 (ix2 i t)
    W1 := fun i t => g2 (ix2 i t)
    B1 := fun j => g3 (ix1 j)
    W2 := fun i t => g4 (ix2 i t)
    B2 := fun j => g5 (ix1 j)
    sft := IsR.mul tenth_real (sin_real (IsR.mul ⟨_, rfl⟩ half_real))
    CH := fun i t => g10 (ix2 i t)
    CB := fun j => g11 (ix1 j)
    CW := fun i t => g12 (ix2 i t)
    CC := fun j => g13 (ix1 j) }

/-- The decoded latents agree. -/
theorem la_agree (c : Dev Cert.KernelIdeal.nD) : (rla (argsK m c) : Cert.ReferenceIdeal.S1024x4096.Idx → EReal) = G2 (KK m c) := by
  funext y
  obtain ⟨i, j, rfl⟩ : ∃ i j, y = ix2 i j := ⟨_, _, eq_ix2 y⟩
  rw [KK_eq]
  exact (congrFun (congrFun (rla_fn (argsK m c)) i) j).trans (congrFun (congrFun (Inp.la_eq _) i) j).symm

/-- The new positions agree. -/
theorem np_agree (c : Dev Cert.KernelIdeal.nD) : (rnp (argsK m c) : Cert.ReferenceIdeal.S1024x1024.Idx → EReal) = G0 (KK m c) := by
  funext y
  obtain ⟨i, j, rfl⟩ : ∃ i j, y = ix2 i j := ⟨_, _, eq_ix2 y⟩
  rw [KK_eq]
  exact (congrFun (congrFun (rnp_fn (argsK m c)) i) j).trans (congrFun (congrFun (Inp.np_eq _) i) j).symm

/-- The first probabilities agree. -/
theorem p0_agree (h : Cert.Pre_KernelIdeal_operands_finite m) (c : Dev Cert.KernelIdeal.nD) :
    (rp0 (argsK m c) : Cert.ReferenceIdeal.S1024.Idx → EReal) = colK (KK m c) 0 := by
  funext y
  obtain ⟨i, rfl⟩ : ∃ i, y = ix1 i := ⟨_, eq_ix1 y⟩
  rw [KK_eq]
  exact (rp0_at (argsK m c) i).trans (Inp.prob_eq (fin_of_pre m h c) i)

/-- The values agree. -/
theorem va_agree (c : Dev Cert.KernelIdeal.nD) : (rv0 (argsK m c) : Cert.ReferenceIdeal.S1024.Idx → EReal) = colK (KK m c) 1 := by
  funext y
  obtain ⟨i, rfl⟩ : ∃ i, y = ix1 i := ⟨_, eq_ix1 y⟩
  rw [KK_eq]
  exact (congrFun (rv0_fn (argsK m c)) i).trans (congrFun (Inp.va_eq _) i).symm

/-- The log probabilities agree. -/
theorem lp_agree (h : Cert.Pre_KernelIdeal_operands_finite m) (c : Dev Cert.KernelIdeal.nD) :
    (rlp (argsK m c) : Cert.ReferenceIdeal.S1024.Idx → EReal) = colK (KK m c) 2 := by
  funext y
  obtain ⟨i, rfl⟩ : ∃ i, y = ix1 i := ⟨_, eq_ix1 y⟩
  rw [KK_eq]
  exact rlp_at (argsK m c) (fin_of_pre m h c) i

/-- The entropies agree. -/
theorem ent_agree (h : Cert.Pre_KernelIdeal_operands_finite m) (c : Dev Cert.KernelIdeal.nD) :
    (ren (argsK m c) : Cert.ReferenceIdeal.S1024.Idx → EReal) = colK (KK m c) 3 := by
  funext y
  obtain ⟨i, rfl⟩ : ∃ i, y = ix1 i := ⟨_, eq_ix1 y⟩
  rw [KK_eq]
  exact (ren_at (argsK m c) i).trans (Inp.ent_eq (fin_of_pre m h c) i)

/-- THE VALUE CLAIM: from the same arguments, those behind the scores finite, both programs end with the same six results. -/
theorem algebraic : Cert.algebraic_KernelIdeal_ReferenceIdeal_pre_operands_finite := by
  intro m g m' g' hpre hargs
  have ea : ∀ c : Dev Cert.KernelIdeal.nD, args (StableHlo.launchContents m' c) = argsK m c := by
    intro c
    unfold args argsK
    rw [Args.mk.injEq]
    exact hargs c
  refine ⟨fun c => G2 (KK m c), fun c => G0 (KK m c), fun c => colK (KK m c) 0, fun c => colK (KK m c) 1, fun c => colK (KK m c) 2,
    fun c => colK (KK m c) 3, Cert.KernelIdeal.HandV.run_out m g, ?_⟩
  refine (θ_run Cert.ReferenceIdeal.defs _ _).mono (fun r h c => ⟨?_, ?_, ?_, ?_, ?_, ?_,
    (h c Cert.ReferenceIdeal.main_arg0).trans (UN_arg (by decide) _),
    (h c Cert.ReferenceIdeal.main_arg1).trans (UN_arg (by decide) _),
    (h c Cert.ReferenceIdeal.main_arg2).trans (UN_arg (by decide) _),
    (h c Cert.ReferenceIdeal.main_arg3).trans (UN_arg (by decide) _),
    (h c Cert.ReferenceIdeal.main_arg4).trans (UN_arg (by decide) _),
    (h c Cert.ReferenceIdeal.main_arg5).trans (UN_arg (by decide) _),
    (h c Cert.ReferenceIdeal.main_arg6).trans (UN_arg (by decide) _),
    (h c Cert.ReferenceIdeal.main_arg7).trans (UN_arg (by decide) _),
    (h c Cert.ReferenceIdeal.main_arg8).trans (UN_arg (by decide) _),
    (h c Cert.ReferenceIdeal.main_arg9).trans (UN_arg (by decide) _),
    (h c Cert.ReferenceIdeal.main_arg10).trans (UN_arg (by decide) _),
    (h c Cert.ReferenceIdeal.main_arg11).trans (UN_arg (by decide) _),
    (h c Cert.ReferenceIdeal.main_arg12).trans (UN_arg (by decide) _),
    (h c Cert.ReferenceIdeal.main_arg13).trans (UN_arg (by decide) _),
    (h c Cert.ReferenceIdeal.main_arg14).trans (UN_arg (by decide) _),
    (h c Cert.ReferenceIdeal.main_arg15).trans (UN_arg (by decide) _),
    (h c Cert.ReferenceIdeal.main_arg16).trans (UN_arg (by decide) _),
    (h c Cert.ReferenceIdeal.main_arg17).trans (UN_arg (by decide) _),
    (h c Cert.ReferenceIdeal.main_arg18).trans (UN_arg (by decide) _),
    (h c Cert.ReferenceIdeal.main_arg19).trans (UN_arg (by decide) _)⟩) (Cert.ReferenceIdeal.Hand.run m' g')
  · exact (h c Cert.ReferenceIdeal.main_v81).trans ((UN_rla _).trans ((congrArg rla (ea c)).trans (la_agree m c)))
  · exact (h c Cert.ReferenceIdeal.main_v70).trans ((UN_rnp _).trans ((congrArg rnp (ea c)).trans (np_agree m c)))
  · exact (h c Cert.ReferenceIdeal.main_v93).trans ((UN_rp0 _).trans ((congrArg rp0 (ea c)).trans (p0_agree m hpre c)))
  · exact (h c Cert.ReferenceIdeal.main_v94).trans ((UN_rv0 _).trans ((congrArg rv0 (ea c)).trans (va_agree m c)))
  · exact (h c Cert.ReferenceIdeal.main_v85).trans ((UN_rlp _).trans ((congrArg rlp (ea c)).trans (lp_agree m hpre c)))
  · exact (h c Cert.ReferenceIdeal.main_v91).trans ((UN_ren _).trans ((congrArg ren (ea c)).trans (ent_agree m hpre c)))

end Cert.Alg

end
-- ==== Proof.lean ====
module

public import proofs.«01_k».proof.Defs
public import proofs.«01_k».proof.Proof.Launch0
public import proofs.«01_k».proof.Proof.K.Launch0
public import proofs.«01_k».proof.Proof.Ref
public import proofs.«01_k».proof.Proof.Alg
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Alg.preFacts,
  fun m g _ => Cert.Kernel.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  trivial,
  Cert.Alg.algebraic⟩

end Cert.Proof

end
